-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S1 : Shape := ⟨1, ![1]⟩
abbrev S4096x256 : Shape := ⟨2, ![4096, 256]⟩
abbrev S8x4096x256 : Shape := ⟨3, ![8, 4096, 256]⟩
abbrev S7x512x256 : Shape := ⟨3, ![7, 512, 256]⟩
abbrev S7x1x256 : Shape := ⟨3, ![7, 1, 256]⟩
abbrev S8 : Shape := ⟨1, ![8]⟩
abbrev S7 : Shape := ⟨1, ![7]⟩
abbrev S_ : Shape := ⟨0, ![]⟩
abbrev S1x4096x256 : Shape := ⟨3, ![1, 4096, 256]⟩
abbrev S512x256 : Shape := ⟨2, ![512, 256]⟩
abbrev S256 : Shape := ⟨1, ![256]⟩
abbrev S1x256 : Shape := ⟨2, ![1, 256]⟩
abbrev S1x512x256 : Shape := ⟨3, ![1, 512, 256]⟩
abbrev S1x1x256 : Shape := ⟨3, ![1, 1, 256]⟩

abbrev nBuf : Space → Nat
  | .hbm => 5
  | .vmem => 8
  | .smem => 2
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .f32⟩
  | .local _ .vmem, ⟨1, _⟩ => ⟨S4096x256, .f32⟩
  | .local _ .vmem, ⟨2, _⟩ => ⟨S512x4096, .fp8e4m3⟩
  | .local _ .vmem, ⟨3, _⟩ => ⟨S8x4096x256, .f32⟩
  | .local _ .vmem, ⟨4, _⟩ => ⟨S7x512x256, .i8⟩
  | .local _ .vmem, ⟨5, _⟩ => ⟨S7x512x256, .i8⟩
  | .local _ .vmem, ⟨6, _⟩ => ⟨S7x1x256, .f32⟩
  | .local _ .vmem, ⟨7, _⟩ => ⟨S7x1x256, .f32⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_775 : BitVec 32 := 0#32
  let c0_i32_773 : BitVec 32 := 0#32
  let c1_i32_774 : BitVec 32 := 1#32
  let v860 : BitVec 32 := Scalar.muli c0_i32_773 c1_i32_774
  let v861 : BitVec 32 := Scalar.addi c0_i32_775 v860
  v861.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_775 : BitVec 32 := 0#32
  let c1_i32_773 : BitVec 32 := 1#32
  let c1_i32_774 : BitVec 32 := 1#32
  let v860 : BitVec 32 := Scalar.muli c1_i32_773 c1_i32_774
  let v861 : BitVec 32 := Scalar.addi c0_i32_775 v860
  v861.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_775 : BitVec 32 := 0#32
  let c2_i32_773 : BitVec 32 := 2#32
  let c1_i32_774 : BitVec 32 := 1#32
  let v860 : BitVec 32 := Scalar.muli c2_i32_773 c1_i32_774
  let v861 : BitVec 32 := Scalar.addi c0_i32_775 v860
  v861.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_775 : BitVec 32 := 0#32
  let c3_i32_773 : BitVec 32 := 3#32
  let c1_i32_774 : BitVec 32 := 1#32
  let v860 : BitVec 32 := Scalar.muli c3_i32_773 c1_i32_774
  let v861 : BitVec 32 := Scalar.addi c0_i32_775 v860
  v861.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_775 : BitVec 32 := 0#32
  let c4_i32_773 : BitVec 32 := 4#32
  let c1_i32_774 : BitVec 32 := 1#32
  let v860 : BitVec 32 := Scalar.muli c4_i32_773 c1_i32_774
  let v861 : BitVec 32 := Scalar.addi c0_i32_775 v860
  v861.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_775 : BitVec 32 := 0#32
  let c5_i32_773 : BitVec 32 := 5#32
  let c1_i32_774 : BitVec 32 := 1#32
  let v860 : BitVec 32 := Scalar.muli c5_i32_773 c1_i32_774
  let v861 : BitVec 32 := Scalar.addi c0_i32_775 v860
  v861.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_775 : BitVec 32 := 0#32
  let c6_i32_773 : BitVec 32 := 6#32
  let c1_i32_774 : BitVec 32 := 1#32
  let v860 : BitVec 32 := Scalar.muli c6_i32_773 c1_i32_774
  let v861 : BitVec 32 := Scalar.addi c0_i32_775 v860
  v861.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_775 : BitVec 32 := 0#32
  let c7_i32_773 : BitVec 32 := 7#32
  let c1_i32_774 : BitVec 32 := 1#32
  let v860 : BitVec 32 := Scalar.muli c7_i32_773 c1_i32_774
  let v861 : BitVec 32 := Scalar.addi c0_i32_775 v860
  v861.toNat
def k0_off1 (d0 : Dev nD) (c0_i32_12 : BitVec 32) : Fin 2 → Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v31 : BitVec 32 := Scalar.addi v2 c1_i32_11
  let v32 : BitVec 32 := Scalar.addi v31 c0_i32_12
  let c8_i32_13 : BitVec 32 := 8#32
  let v33 : BitVec 32 := Scalar.remsi v32 c8_i32_13
  let c256_i32 : BitVec 32 := 256#32
  let v34 : BitVec 32 := Scalar.muli v33 c256_i32
  ![0, v34.toNat]
def k0_dev9 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_99 : BitVec 32 := 1#32
  let v129 : BitVec 32 := Scalar.addi v2 c1_i32_99
  let c0_i32_100 : BitVec 32 := 0#32
  let v130 : BitVec 32 := Scalar.addi v129 c0_i32_100
  let c8_i32_101 : BitVec 32 := 8#32
  let v131 : BitVec 32 := Scalar.remsi v130 c8_i32_101
  let c1_i32_116 : BitVec 32 := 1#32
  let v151 : BitVec 32 := Scalar.muli v131 c1_i32_116
  let v152 : BitVec 32 := Scalar.addi c0_i32_117 v151
  v152.toNat
def k0_dev10 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_99 : BitVec 32 := 1#32
  let v129 : BitVec 32 := Scalar.addi v2 c1_i32_99
  let c0_i32_100 : BitVec 32 := 0#32
  let v130 : BitVec 32 := Scalar.addi v129 c0_i32_100
  let c8_i32_101 : BitVec 32 := 8#32
  let v131 : BitVec 32 := Scalar.remsi v130 c8_i32_101
  let c1_i32_126 : BitVec 32 := 1#32
  let v161 : BitVec 32 := Scalar.muli v131 c1_i32_126
  let v162 : BitVec 32 := Scalar.addi c0_i32_127 v161
  v162.toNat
def k0_dev11 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_145 : BitVec 32 := 1#32
  let v191 : BitVec 32 := Scalar.addi v2 c1_i32_145
  let c1_i32_146 : BitVec 32 := 1#32
  let v192 : BitVec 32 := Scalar.addi v191 c1_i32_146
  let c8_i32_147 : BitVec 32 := 8#32
  let v193 : BitVec 32 := Scalar.remsi v192 c8_i32_147
  let c1_i32_162 : BitVec 32 := 1#32
  let v213 : BitVec 32 := Scalar.muli v193 c1_i32_162
  let v214 : BitVec 32 := Scalar.addi c0_i32_163 v213
  v214.toNat
def k0_dev12 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_145 : BitVec 32 := 1#32
  let v191 : BitVec 32 := Scalar.addi v2 c1_i32_145
  let c1_i32_146 : BitVec 32 := 1#32
  let v192 : BitVec 32 := Scalar.addi v191 c1_i32_146
  let c8_i32_147 : BitVec 32 := 8#32
  let v193 : BitVec 32 := Scalar.remsi v192 c8_i32_147
  let c1_i32_172 : BitVec 32 := 1#32
  let v223 : BitVec 32 := Scalar.muli v193 c1_i32_172
  let v224 : BitVec 32 := Scalar.addi c0_i32_173 v223
  v224.toNat
def k0_dev13 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_191 : BitVec 32 := 1#32
  let v253 : BitVec 32 := Scalar.addi v2 c1_i32_191
  let c2_i32_192 : BitVec 32 := 2#32
  let v254 : BitVec 32 := Scalar.addi v253 c2_i32_192
  let c8_i32_193 : BitVec 32 := 8#32
  let v255 : BitVec 32 := Scalar.remsi v254 c8_i32_193
  let c1_i32_208 : BitVec 32 := 1#32
  let v275 : BitVec 32 := Scalar.muli v255 c1_i32_208
  let v276 : BitVec 32 := Scalar.addi c0_i32_209 v275
  v276.toNat
def k0_dev14 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_191 : BitVec 32 := 1#32
  let v253 : BitVec 32 := Scalar.addi v2 c1_i32_191
  let c2_i32_192 : BitVec 32 := 2#32
  let v254 : BitVec 32 := Scalar.addi v253 c2_i32_192
  let c8_i32_193 : BitVec 32 := 8#32
  let v255 : BitVec 32 := Scalar.remsi v254 c8_i32_193
  let c1_i32_218 : BitVec 32 := 1#32
  let v285 : BitVec 32 := Scalar.muli v255 c1_i32_218
  let v286 : BitVec 32 := Scalar.addi c0_i32_219 v285
  v286.toNat
def k0_off2 (d0 : Dev nD) (c0_i32_245 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_244 : BitVec 32 := 1#32
  let v311 : BitVec 32 := Scalar.subi v2 c1_i32_244
  let v312 : BitVec 32 := Scalar.subi v311 c0_i32_245
  let c8_i32_246 : BitVec 32 := 8#32
  let v313 : BitVec 32 := Scalar.addi v312 c8_i32_246
  let c8_i32_247 : BitVec 32 := 8#32
  let v314 : BitVec 32 := Scalar.remsi v313 c8_i32_247
  let c512_i32 : BitVec 32 := 512#32
  let v322 : BitVec 32 := Scalar.muli v314 c512_i32
  let v323 : Index := Scalar.indexCast v322
  let c0_254 : Index := 0#32
  ![v323.toNat, 0]
def k0_dev15 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_268 : BitVec 32 := 1#32
  let v345 : BitVec 32 := Scalar.addi v2 c1_i32_268
  let c3_i32_269 : BitVec 32 := 3#32
  let v346 : BitVec 32 := Scalar.addi v345 c3_i32_269
  let c8_i32_270 : BitVec 32 := 8#32
  let v347 : BitVec 32 := Scalar.remsi v346 c8_i32_270
  let c1_i32_285 : BitVec 32 := 1#32
  let v367 : BitVec 32 := Scalar.muli v347 c1_i32_285
  let v368 : BitVec 32 := Scalar.addi c0_i32_286 v367
  v368.toNat
def k0_dev16 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_268 : BitVec 32 := 1#32
  let v345 : BitVec 32 := Scalar.addi v2 c1_i32_268
  let c3_i32_269 : BitVec 32 := 3#32
  let v346 : BitVec 32 := Scalar.addi v345 c3_i32_269
  let c8_i32_270 : BitVec 32 := 8#32
  let v347 : BitVec 32 := Scalar.remsi v346 c8_i32_270
  let c1_i32_295 : BitVec 32 := 1#32
  let v377 : BitVec 32 := Scalar.muli v347 c1_i32_295
  let v378 : BitVec 32 := Scalar.addi c0_i32_296 v377
  v378.toNat
def k0_dev17 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_346 : BitVec 32 := 1#32
  let v437 : BitVec 32 := Scalar.addi v2 c1_i32_346
  let c4_i32_347 : BitVec 32 := 4#32
  let v438 : BitVec 32 := Scalar.addi v437 c4_i32_347
  let c8_i32_348 : BitVec 32 := 8#32
  let v439 : BitVec 32 := Scalar.remsi v438 c8_i32_348
  let c1_i32_363 : BitVec 32 := 1#32
  let v459 : BitVec 32 := Scalar.muli v439 c1_i32_363
  let v460 : BitVec 32 := Scalar.addi c0_i32_364 v459
  v460.toNat
def k0_dev18 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_346 : BitVec 32 := 1#32
  let v437 : BitVec 32 := Scalar.addi v2 c1_i32_346
  let c4_i32_347 : BitVec 32 := 4#32
  let v438 : BitVec 32 := Scalar.addi v437 c4_i32_347
  let c8_i32_348 : BitVec 32 := 8#32
  let v439 : BitVec 32 := Scalar.remsi v438 c8_i32_348
  let c1_i32_373 : BitVec 32 := 1#32
  let v469 : BitVec 32 := Scalar.muli v439 c1_i32_373
  let v470 : BitVec 32 := Scalar.addi c0_i32_374 v469
  v470.toNat
def k0_dev19 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_424 : BitVec 32 := 1#32
  let v529 : BitVec 32 := Scalar.addi v2 c1_i32_424
  let c5_i32_425 : BitVec 32 := 5#32
  let v530 : BitVec 32 := Scalar.addi v529 c5_i32_425
  let c8_i32_426 : BitVec 32 := 8#32
  let v531 : BitVec 32 := Scalar.remsi v530 c8_i32_426
  let c1_i32_441 : BitVec 32 := 1#32
  let v551 : BitVec 32 := Scalar.muli v531 c1_i32_441
  let v552 : BitVec 32 := Scalar.addi c0_i32_442 v551
  v552.toNat
def k0_dev20 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_424 : BitVec 32 := 1#32
  let v529 : BitVec 32 := Scalar.addi v2 c1_i32_424
  let c5_i32_425 : BitVec 32 := 5#32
  let v530 : BitVec 32 := Scalar.addi v529 c5_i32_425
  let c8_i32_426 : BitVec 32 := 8#32
  let v531 : BitVec 32 := Scalar.remsi v530 c8_i32_426
  let c1_i32_451 : BitVec 32 := 1#32
  let v561 : BitVec 32 := Scalar.muli v531 c1_i32_451
  let v562 : BitVec 32 := Scalar.addi c0_i32_452 v561
  v562.toNat
def k0_dev21 (d0 : Dev nD) : Nat :=
  let c0_i32_520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_502 : BitVec 32 := 1#32
  let v621 : BitVec 32 := Scalar.addi v2 c1_i32_502
  let c6_i32_503 : BitVec 32 := 6#32
  let v622 : BitVec 32 := Scalar.addi v621 c6_i32_503
  let c8_i32_504 : BitVec 32 := 8#32
  let v623 : BitVec 32 := Scalar.remsi v622 c8_i32_504
  let c1_i32_519 : BitVec 32 := 1#32
  let v643 : BitVec 32 := Scalar.muli v623 c1_i32_519
  let v644 : BitVec 32 := Scalar.addi c0_i32_520 v643
  v644.toNat
def k0_dev22 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_502 : BitVec 32 := 1#32
  let v621 : BitVec 32 := Scalar.addi v2 c1_i32_502
  let c6_i32_503 : BitVec 32 := 6#32
  let v622 : BitVec 32 := Scalar.addi v621 c6_i32_503
  let c8_i32_504 : BitVec 32 := 8#32
  let v623 : BitVec 32 := Scalar.remsi v622 c8_i32_504
  let c1_i32_529 : BitVec 32 := 1#32
  let v653 : BitVec 32 := Scalar.muli v623 c1_i32_529
  let v654 : BitVec 32 := Scalar.addi c0_i32_530 v653
  v654.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_580 : BitVec 32 := 512#32
  let v713 : BitVec 32 := Scalar.muli v2 c512_i32_580
  let v714 : Index := Scalar.indexCast v713
  let c0_581 : Index := 0#32
  ![v714.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩
abbrev S8x512x8x256 : Shape := ⟨4, ![8, 512, 8, 256]⟩
abbrev S8x8x256 : Shape := ⟨3, ![8, 8, 256]⟩
abbrev S8x1x8x256 : Shape := ⟨4, ![8, 1, 8, 256]⟩

abbrev nBuf : Space → Nat
  | .hbm => 47
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S8x512x8x256, .f32⟩
  | .hbm, ⟨16, _⟩ => ⟨S8x512x8x256, .f32⟩
  | .hbm, ⟨17, _⟩ => ⟨S_, .f32⟩
  | .hbm, ⟨18, _⟩ => ⟨S8x8x256, .f32⟩
  | .hbm, ⟨19, _⟩ => ⟨S8x1x8x256, .f32⟩
  | .hbm, ⟨20, _⟩ => ⟨S_, .f32⟩
  | .hbm, ⟨21, _⟩ => ⟨S8x1x8x256, .f32⟩
  | .hbm, ⟨22, _⟩ => ⟨S8x1x8x256, .f32⟩
  | .hbm, ⟨23, _⟩ => ⟨S_, .f32⟩
  | .hbm, ⟨24, _⟩ => ⟨S8x1x8x256, .f32⟩
  | .hbm, ⟨25, _⟩ => ⟨S8x1x8x256, .f32⟩
  | .hbm, ⟨26, _⟩ => ⟨S8x512x8x256, .f32⟩
  | .hbm, ⟨27, _⟩ => ⟨S8x512x8x256, .f32⟩
  | .hbm, ⟨28, _⟩ => ⟨S8x512x8x256, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x512x8x256, .f32⟩
  | .hbm, ⟨33, _⟩ => ⟨S8x512x8x256, .f32⟩
  | .hbm, ⟨34, _⟩ => ⟨S_, .f32⟩
  | .hbm, ⟨35, _⟩ => ⟨S8x512x8x256, .f32⟩
  | .hbm, ⟨36, _⟩ => ⟨S8x512x8x256, .f32⟩
  | .hbm, ⟨37, _⟩ => ⟨S_, .f32⟩
  | .hbm, ⟨38, _⟩ => ⟨S8x1x8x256, .f32⟩
  | .hbm, ⟨39, _⟩ => ⟨S8x1x8x256, .f32⟩
  | .hbm, ⟨40, _⟩ => ⟨S8x512x8x256, .f32⟩
  | .hbm, ⟨41, _⟩ => ⟨S8x512x8x256, .f32⟩
  | .hbm, ⟨42, _⟩ => ⟨S8x512x8x256, .i32⟩
  | .hbm, ⟨43, _⟩ => ⟨S8x512x8x256, .i32⟩
  | .hbm, ⟨44, _⟩ => ⟨S8x512x8x256, .i1⟩
  | .hbm, ⟨45, _⟩ => ⟨S8x512x8x256, .f32⟩
  | .hbm, ⟨46, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Stages.lean ====
/- The kernel's body, regrouped: one program text per kind of stage, at the stage's number, and the
   printed body equal to the stages in the printed order. -/
module

public import proofs.«01_k».proof.Proof.Gen.KernelIdeal.Frame
public import proofs.«01_k».proof.Proof.Gen.KernelIdeal.Skeleton

@[expose] public section

noncomputable section

namespace Cert.KernelIdeal.Exchange

open Idealize.ShloMosaic Idealize.ShloMosaic.TcCoe Idealize.SL.Sem
open Cert.KernelIdeal.Gen

variable {F : FTy → Type} [FloatOps F]

/-! ## The buffers -/

/-- This device's 512 rows of `x`, staged. -/
abbrev xM : Memref sig .tc .vmem S512x4096 .f32 := Memref.whole cc0_stg0_0
/-- `w`, whole, in the device's main memory. -/
abbrev wM : Memref sig .tc .hbm S4096x2048 .f32 := Memref.whole main_arg1
/-- The two scales, staged. -/
abbrev sxM : Memref sig .tc .smem S1 .f32 := Memref.whole cc0_stg1_0
abbrev swM : Memref sig .tc .smem S1 .f32 := Memref.whole cc0_stg2_0
/-- The device's 256 columns of the result, staged. -/
abbrev oM : Memref sig .tc .vmem S4096x256 .f32 := Memref.whole cc0_stg3_0
/-- `x` narrowed; the eight column blocks of `w`; codes to send and codes received; scales to send and received. -/
abbrev xbM : Memref sig .tc .vmem S512x4096 .fp8e4m3 := Memref.whole cc0_scratch0
abbrev wvM : Memref sig .tc .vmem S8x4096x256 .f32 := Memref.whole cc0_scratch1
abbrev sendM : Memref sig .tc .vmem S7x512x256 .i8 := Memref.whole cc0_scratch2
abbrev commM : Memref sig .tc .vmem S7x512x256 .i8 := Memref.whole cc0_scratch3
abbrev sscM : Memref sig .tc .vmem S7x1x256 .f32 := Memref.whole cc0_scratch4
abbrev rscM : Memref sig .tc .vmem S7x1x256 .f32 := Memref.whole cc0_scratch5

/-! ## The slots -/

theorem inbW (st : Fin 8) : ∀ a, (![st.val, 0, 0] : Fin 3 → Nat) a + S1x4096x256.size a ≤ S8x4096x256.size a := by
  revert st; decide
theorem inbC (st : Fin 7) : ∀ a, (![st.val, 0, 0] : Fin 3 → Nat) a + S1x512x256.size a ≤ S7x512x256.size a := by
  revert st; decide
theorem inbS (st : Fin 7) : ∀ a, (![st.val, 0, 0] : Fin 3 → Nat) a + S1x1x256.size a ≤ S7x1x256.size a := by
  revert st; decide
theorem inb8 (st : Fin 8) : ∀ a, (![st.val] : Fin 1 → Nat) a + S1.size a ≤ S8.size a := by revert st; decide
theorem inb7 (st : Fin 7) : ∀ a, (![st.val] : Fin 1 → Nat) a + S1.size a ≤ S7.size a := by revert st; decide

/-- Slot `st` of the column blocks, of the codes, of the scales. -/
abbrev rW (st : Fin 8) : Rect S8x4096x256 := Rect.unit (s := S8x4096x256) ![st.val, 0, 0] S1x4096x256.size (inbW st)
abbrev rC (st : Fin 7) : Rect S7x512x256 := Rect.unit (s := S7x512x256) ![st.val, 0, 0] S1x512x256.size (inbC st)
abbrev rS (st : Fin 7) : Rect S7x1x256 := Rect.unit (s := S7x1x256) ![st.val, 0, 0] S1x1x256.size (inbS st)

theorem packedC (st : Fin 7) : (rC st).PackedRows (EltTy.packing .i8) := by revert st; decide
theorem wordsC (st : Fin 7) : (rC st).WholeWords (EltTy.packing .i8) := by revert st; decide

/-- The column block of `w` stage `st` of device `c` multiplies by. -/
abbrev wSrc (c : Dev nD) (st : Fin 8) : Memref sig .tc .hbm S4096x256 .f32 :=
  wM.slice (Rect.unit (s := S4096x2048) (k0_off1 c (BitVec.ofNat 32 st.val)) S4096x256.size (k0_off1_inb c st)) (fun _ => rfl)
abbrev wvSl (st : Fin 8) : Memref sig .tc .vmem S4096x256 .f32 :=
  (wvM.slice (rW st) (fun _ => rfl)).squeeze S4096x256 squeezes_S1x4096x256_S4096x256
abbrev sendSl (st : Fin 7) : Memref sig .tc .vmem S512x256 .i8 :=
  (sendM.slice (rC st) (fun _ => rfl)).squeeze S512x256 squeezes_S1x512x256_S512x256
abbrev commSl (st : Fin 7) : Memref sig .tc .vmem S512x256 .i8 :=
  (commM.slice (rC st) (fun _ => rfl)).squeeze S512x256 squeezes_S1x512x256_S512x256
abbrev sscSl (st : Fin 7) : Memref sig .tc .vmem S1x256 .f32 :=
  (sscM.slice (rS st) (fun _ => rfl)).squeeze S1x256 squeezes_S1x1x256_S1x256
abbrev rscSl (st : Fin 7) : Memref sig .tc .vmem S1x256 .f32 :=
  (rscM.slice (rS st) (fun _ => rfl)).squeeze S1x256 squeezes_S1x1x256_S1x256

/-! ## The semaphores -/

abbrev barS : Sem sig := (SemArray.scalar (sig.barrier 0 rfl) : Sems sig S_).sem
abbrev wS (st : Fin 8) : DmaSem sig := ((cc0_scratch6.slice (Rect.unit (s := S8) ![st.val] S1.size (inb8 st))).squeeze S_ squeezes_S1_S_).sem
/-- One entry of an array of seven transfer semaphores. -/
abbrev s7 (a : DmaSems sig S7) (st : Fin 7) : DmaSem sig := ((a.slice (Rect.unit (s := S7) ![st.val] S1.size (inb7 st))).squeeze S_ squeezes_S1_S_).sem
abbrev cSend (st : Fin 7) : DmaSem sig := s7 cc0_scratch7 st
abbrev cRecv (st : Fin 7) : DmaSem sig := s7 cc0_scratch8 st
abbrev sSend (st : Fin 7) : DmaSem sig := s7 cc0_scratch9 st
abbrev sRecv (st : Fin 7) : DmaSem sig := s7 cc0_scratch10 st

/-! ## The devices and the words -/

/-- The device stage `st` of `c` sends to, as the kernel computes it. -/
def toDev (c : Dev nD) (st : BitVec 32) : Nat :=
  (Scalar.addi 0#32 (Scalar.muli (Scalar.remsi (Scalar.addi (Scalar.addi (Scalar.remsi (Scalar.divsi (Dev.word c) 1#32) 8#32) 1#32) st) 8#32) 1#32)).toNat

theorem toDev_eq : ∀ (c : Dev nD) (r : Fin 7), toDev c (BitVec.ofNat 32 r.val) = (c.val + r.val + 1) % 8 := by decide +kernel
theorem toDev_lt (c : Dev nD) (r : Fin 7) : toDev c (BitVec.ofNat 32 r.val) < nD := by
  rw [toDev_eq]; exact Nat.mod_lt _ (by decide)

/-- Whether device `c` is not device `p`, as the kernel computes it. -/
def notDev (c : Dev nD) (p : BitVec 32) : BitVec 1 :=
  Scalar.cmpi .ne (Scalar.extui (Scalar.cmpi .ne (Scalar.remsi (Scalar.divsi (Dev.word c) 1#32) 8#32) p) : BitVec 32) 0#32

def sigDev (p : BitVec 32) : Nat := (Scalar.addi 0#32 (Scalar.muli p 1#32)).toNat
theorem sigDev_eq : ∀ p : Fin 8, sigDev (BitVec.ofNat 32 p.val) = p.val := by decide +kernel
theorem sigDev_lt (p : Fin 8) : sigDev (BitVec.ofNat 32 p.val) < nD := by rw [sigDev_eq]; exact p.isLt
theorem notDev_eq : ∀ (c : Dev nD) (p : Fin 8), notDev c (BitVec.ofNat 32 p.val) = 1#1 ↔ c ≠ p := by decide +kernel

abbrev Prg (F : FTy → Type) [FloatOps F] (α : Type) : Type 1 := Prog (TpuEff nD τ sig (Elt F) Λ₀ .tc) α

/-! ## The stages -/

/-- The signal to device `p`, unless `p` is `c`; then `k`. -/
def sigThen {α : Type} (c : Dev nD) (p : Fin 8) (k : Prg F α) : Prg F α :=
  if h : notDev c (BitVec.ofNat 32 p.val) = 1#1 then do
    semSignalWord (⟨sigDev (BitVec.ofNat 32 p.val), sigDev_lt p⟩ : Dev nD) barS 1#32
    k
  else k

/-- The start of the copy of column block `st`. -/
def copyStage (c : Dev nD) (st : Fin 8) : Prg F PUnit :=
  Prog.lift (.enqueueDma (wSrc c st) (.here (wvSl st)) (.dma (wS st)) (View.wordExact_bits rfl)
    ((View.wordExact_bits rfl).reshape _ _) ⟨Or.inl rfl, trivial⟩)

/-- `x`, narrowed. -/
def xbStage : Prg F PUnit := do
  let v ← Prog.lift (.load xM (Rect.unit (s := S512x4096) ![0, 0] S512x4096.size inb_S512x4096_S512x4096_0_0).toLoadRect (View.loadsAt_vmem h_S512x4096))
  let _ : Vec F S512x4096 .fp8e4m3 ← Prog.lift (.load xbM (Rect.unit (s := S512x4096) ![0, 0] S512x4096.size inb_S512x4096_S512x4096_0_0).toLoadRect (View.loadsAt_vmem h_S512x4096))
  Prog.lift (.store xbM (Rect.unit (s := S512x4096) ![0, 0] S512x4096.size inb_S512x4096_S512x4096_0_0) (k0_pay2 v) Finset.univ
    (View.stores_vmem h_S512x4096 ((Memref.isWhole_whole _).storeExact_slice rfl _ packedfp8e4m3_S512x4096_S512x4096_0_0) (fun _ => rfl)) (.inl rfl))

/-- The wait for column block `st` and the reading of it and of the narrowed rows. -/
def readStage (c : Dev nD) (st : Fin 8) : Prg F (Vec F S1x4096x256 .f32 × Vec F S512x4096 .fp8e4m3) := do
  Prog.lift (.waitDma2 (wS st) (wSrc c st) (wvSl st) (View.wordExact_bits rfl) ((View.wordExact_bits rfl).reshape _ _))
  let a : Vec F S1x4096x256 .f32 ← Prog.lift (.load wvM (rW st).toLoadRect (View.loadsAt_vmem h_S1x4096x256))
  let b : Vec F S512x4096 .fp8e4m3 ← Prog.lift (.load xbM (Rect.unit (s := S512x4096) ![0, 0] S512x4096.size inb_S512x4096_S512x4096_0_0).toLoadRect (View.loadsAt_vmem h_S512x4096))
  pure (a, b)

/-- Stage `st < 7`: the block's product, its codes and scales, and the two remote copies started. -/
def workStage (c : Dev nD) (s : F .f32) (st : Fin 7) : Prg F PUnit := do
  let ab ← readStage c st.castSucc
  let _ : Vec F S1x512x256 .i8 ← Prog.lift (.load sendM (rC st).toLoadRect (View.loadsAt_vmem h_S1x512x256))
  Prog.lift (.store sendM (rC st) (k0_pay5 s ab.1 ab.2) Finset.univ
    (View.stores_vmem h_S1x512x256 ((Memref.isWhole_whole _).storeExact_slice rfl _ (packedC st)) (fun _ => rfl)) (.inl rfl))
  let _ : Vec F S1x1x256 .f32 ← Prog.lift (.load sscM (rS st).toLoadRect (View.loadsAt_vmem h_S1x1x256))
  Prog.lift (.store sscM (rS st) (k0_pay6 s ab.1 ab.2) Finset.univ (View.stores_vmem_bits_univ h_S1x1x256 rfl) (.inl rfl))
  Prog.lift (.enqueueDma (sendSl st) (.remote (Dev.tc (⟨toDev c (BitVec.ofNat 32 st.val), toDev_lt c st⟩ : Dev nD)) (commSl st) (.dma (cSend st))) (.dma (cRecv st))
    (((Memref.isWhole_whole _).wordExact_slice rfl _ (wordsC st)).reshape _ _) (((Memref.isWhole_whole _).wordExact_slice rfl _ (wordsC st)).reshape _ _) ⟨⟨rfl, Or.inl rfl⟩, trivial⟩)
  Prog.lift (.enqueueDma (sscSl st) (.remote (Dev.tc (⟨toDev c (BitVec.ofNat 32 st.val), toDev_lt c st⟩ : Dev nD)) (rscSl st) (.dma (sSend st))) (.dma (sRecv st))
    ((View.wordExact_bits rfl).reshape _ _) ((View.wordExact_bits rfl).reshape _ _) ⟨⟨rfl, Or.inl rfl⟩, trivial⟩)

/-- The arrival of block `st`, and its values written to the result. -/
def drainStage (c : Dev nD) (st : Fin 7) : Prg F PUnit := do
  Prog.lift (.waitDma2 (cRecv st) (sendSl st) (commSl st) (((Memref.isWhole_whole _).wordExact_slice rfl _ (wordsC st)).reshape _ _) (((Memref.isWhole_whole _).wordExact_slice rfl _ (wordsC st)).reshape _ _))
  Prog.lift (.waitDma2 (sRecv st) (sscSl st) (rscSl st) ((View.wordExact_bits rfl).reshape _ _) ((View.wordExact_bits rfl).reshape _ _))
  let a : Vec F S1x512x256 .i8 ← Prog.lift (.load commM (rC st).toLoadRect (View.loadsAt_vmem h_S1x512x256))
  let b : Vec F S1x1x256 .f32 ← Prog.lift (.load rscM (rS st).toLoadRect (View.loadsAt_vmem h_S1x1x256))
  let _ : Vec F S512x256 .f32 ← Prog.lift (.load oM (Rect.unit (s := S4096x256) (k0_off2 c (BitVec.ofNat 32 st.val)) S512x256.size (k0_off2_inb c st)).toLoadRect (View.loadsAt_vmem h_S512x256))
  Prog.lift (.store oM (Rect.unit (s := S4096x256) (k0_off2 c (BitVec.ofNat 32 st.val)) S512x256.size (k0_off2_inb c st)) (k0_pay18 a b) Finset.univ
    (View.stores_vmem_bits_univ h_S512x256 rfl) (.inl rfl))

/-- The device's own block, written to the result as computed. -/
def ownStage (c : Dev nD) (s : F .f32) : Prg F PUnit := do
  let ab ← readStage c 7
  let _ : Vec F S512x256 .f32 ← Prog.lift (.load oM (Rect.unit (s := S4096x256) (k0_off3 c) S512x256.size (k0_off3_inb c)).toLoadRect (View.loadsAt_vmem h_S512x256))
  Prog.lift (.store oM (Rect.unit (s := S4096x256) (k0_off3 c) S512x256.size (k0_off3_inb c)) (k0_pay3 s ab.1 ab.2) Finset.univ
    (View.stores_vmem_bits_univ h_S512x256 rfl) (.inl rfl))

/-- The waits for block `st`'s two copies to have left. -/
def leftStage (st : Fin 7) : Prg F PUnit := do
  Prog.lift (.waitDma2 (cSend st) (commSl st) (sendSl st) (((Memref.isWhole_whole _).wordExact_slice rfl _ (wordsC st)).reshape _ _) (((Memref.isWhole_whole _).wordExact_slice rfl _ (wordsC st)).reshape _ _))
  Prog.lift (.waitDma2 (sSend st) (rscSl st) (sscSl st) ((View.wordExact_bits rfl).reshape _ _) ((View.wordExact_bits rfl).reshape _ _))

/-- The signals and the wait for every other device, then the first scale (with what the printed text carries along). -/
def meetStage (c : Dev nD) : Prg F (Σ' (_ : Dev nD) (_ : BitVec 32), Elt F .f32) :=
  sigThen c 0 <| sigThen c 1 <| sigThen c 2 <| sigThen c 3 <| sigThen c 4 <| sigThen c 5 <| sigThen c 6 <| sigThen c 7 do
  semWaitWord barS 7#32
  let a : Elt F .f32 ← smemLoad sxM (Rect.unit (s := S1) ![0] S1.size inb_S1_S1_0) numel1_S1 rfl
  pure ⟨c, Scalar.remsi (Scalar.divsi (Dev.word c) 1#32) 8#32, a⟩

/-- The product of the two scales, from the first. -/
def scaleStage (a : Elt F .f32) : Prg F (F .f32) := do
  let b : Elt F .f32 ← smemLoad swM (Rect.unit (s := S1) ![0] S1.size inb_S1_S1_0) numel1_S1 rfl
  pure (k0_pay1 a b)

/-- The body after the meeting: on device `c`, at the scale `s`. -/
def workStages (c : Dev nD) (s : F .f32) : Prg F PUnit := do
  copyStage c 0; copyStage c 1; copyStage c 2; copyStage c 3; copyStage c 4; copyStage c 5; copyStage c 6; copyStage c 7
  xbStage
  workStage c s 0; workStage c s 1; workStage c s 2; drainStage c 0
  workStage c s 3; drainStage c 1; workStage c s 4; drainStage c 2; workStage c s 5; drainStage c 3
  workStage c s 6; drainStage c 4; ownStage c s; drainStage c 5; drainStage c 6
  leftStage 0; leftStage 1; leftStage 2; leftStage 3; leftStage 4; leftStage 5; leftStage 6

/-- The whole body. -/
def stages : Prg F PUnit := do
  let c : Dev nD ← Prog.lift .deviceId
  let v ← meetStage c
  let s ← scaleStage v.2.2
  workStages v.1 s

set_option maxRecDepth 200000 in
/-- The printed body is the stages, in order, at the device that runs it. -/
theorem body_eq : bodyAt0 (F := F) t0_0 = stages := by
  chain_rfl

end Cert.KernelIdeal.Exchange

end
-- ==== Proof.Slots.lean ====
/- Slots of a buffer: owning one, loading it, storing it, copying it to another slot; and a buffer as the
   pile of its slots. -/
module

public import proofs.«01_k».proof.Proof.Stages
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Exchange

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state, duties named by a stage; beside it the staging pipeline's. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- A program of device `c` ends in `Q`. -/
abbrev Ends {α : Type} (c : Dev nD) (p : Prg F α) (Q : α → sProp 𝕄) : sProp 𝕄 :=
  wp frame (wpE (defs₀ (F := F)) 𝒱₀ (c : Thread nD τ) none) Set.univ p Q

/-- Device `c` holds slot `r` of `M` at `V`. -/
abbrev Slot (c : Dev nD) {sp : Space} {s : Shape} {e : EltTy} (M : Memref sig .tc sp s e) (r : Rect s) (hr : ∀ a, r.stride a = 1)
    (V : r.shape.Idx → Elt F e) : sProp 𝕄 :=
  owns (Ix := Unit) (Name := ℕ) (U := UU) (Lvl := ℕ) (c : Thread nD τ) (M.slice r hr) fullShare V

omit [FloatOps F] in
/-- Each of two assertions giving the other, they are one; -/
theorem both {P Q : sProp 𝕄} (h₁ : P ⊢ Q) (h₂ : Q ⊢ P) : P = Q := BI.equiv_iff.mp ⟨h₁, h₂⟩
omit [FloatOps F] in
/-- a pile changed piece by piece. -/
theorem pile_mono {I : Type} {S : Finset I} {Φ Ψ : I → sProp 𝕄} (h : ∀ i ∈ S, Φ i ⊢ Ψ i) : bigSep S Φ ⊢ bigSep S Ψ := bigSep_mono h

omit [FloatOps F] in
/-- A pile with one more piece. -/
theorem pile_insert {I : Type} [DecidableEq I] {S : Finset I} {i : I} (hi : i ∉ S) (Φ : I → sProp 𝕄) :
    bigSep (insert i S) Φ = iprop(Φ i ∗ bigSep S Φ) := bigSep_insert hi

omit [FloatOps F] in
/-- Holding a memref at `V` is holding its elements at contents it reads as `V`; -/
theorem owns_open (c : Dev nD) {sp : Space} {s : Shape} {e : EltTy} (M : Memref sig .tc sp s e) (V : s.Idx → Elt F e) :
    (owns (Ix := Unit) (Name := ℕ) (U := UU) (Lvl := ℕ) (c : Thread nD τ) M fullShare V : sProp 𝕄)
      ⊢ iprop(∃ f, ⌜M.view.read (Elt F) f = V⌝ ∗ (M.view.loc (c : Thread nD τ) ↦[M.view.set]{fullShare} f)) := .rfl
omit [FloatOps F] in
theorem owns_close (c : Dev nD) {sp : Space} {s : Shape} {e : EltTy} (M : Memref sig .tc sp s e) {V : s.Idx → Elt F e} (f : M.view.ty.Contents (Elt F))
    (h : M.view.read (Elt F) f = V) :
    (M.view.loc (c : Thread nD τ) ↦[M.view.set]{fullShare} f : sProp 𝕄)
      ⊢ owns (Ix := Unit) (Name := ℕ) (U := UU) (Lvl := ℕ) (c : Thread nD τ) M fullShare V := by
  subst h; exact owns_intro _ _ _ _

section Casts

variable {α : Type} {s t : Shape}

omit [FloatOps F] in
/-- Reshaping loses nothing. -/
theorem cast_inj_of (h : s.ShapeCasts t) (h' : t.ShapeCasts s) {a b : s.Idx → α} (e : shapeCast t a h = shapeCast t b h) : a = b := by
  rw [← shapeCast_shapeCast a h h', e, shapeCast_shapeCast]

end Casts

section Steps

variable (c : Dev nD) {sp : Space} {s : Shape} {e : EltTy}

/-- A slot with its unit axis dropped. -/
theorem slot_squeeze (M : Memref sig .tc sp s e) (r : Rect s) (hr : ∀ a, r.stride a = 1) {s' : Shape} (hq : r.shape.Squeezes s')
    (hc : r.shape.ShapeCasts s') (hc' : s'.ShapeCasts r.shape) (V : r.shape.Idx → Elt F e) :
    (Slot c M r hr V : sProp 𝕄)
      = owns (Ix := Unit) (Name := ℕ) (U := UU) (Lvl := ℕ) (c : Thread nD τ) ((M.slice r hr).squeeze s' hq) fullShare (shapeCast s' V hc) := by
  have hset : ((M.slice r hr).squeeze s' hq).view.set = (M.slice r hr).view.set := View.set_reshape _ _
  have hread (f : M.view.ty.Contents (Elt F)) : ((M.slice r hr).squeeze s' hq).view.read (Elt F) f = shapeCast s' ((M.slice r hr).view.read (Elt F) f) hc := rfl
  unfold Slot owns
  refine both ?_ ?_
  · iintro ⟨%f, %hf, H⟩
    iexists f
    isplitr; · ipureintro; rw [hread, hf]
    rw [hset]; iexact H
  · iintro ⟨%f, %hf, H⟩
    iexists f
    isplitr; · ipureintro; exact cast_inj_of hc hc' ((hread f).symm.trans hf)
    rw [hset]; iexact H

/-- Loading a held slot. -/
theorem load_slot {α : Type} {cs : CoreSpace} (M : Memref sig .tc cs s e) (r : Rect s) (hr : ∀ a, r.stride a = 1) {hl : M.view.LoadsAt r.toLoadRect}
    (V : r.shape.Idx → Elt F e) {k : (r.shape.Idx → Elt F e) → Prg F α} {Q : α → sProp 𝕄} :
    Slot c M r hr V ⊢ iprop((Slot c M r hr V -∗ Ends c (k V) Q) -∗ Ends c (.op (.load M r.toLoadRect hl) k) Q) := by
  unfold Slot owns
  iintro ⟨%f, %hf, H⟩ Hk
  iapply (wp_load_rect 𝒱₀ (c : Thread nD τ) none Set.univ (m := M) (r := r) (hl := hl) (f := f) (Finset.Subset.refl _)) $$ H
  iintro H
  rw [show (M.access r).read (Elt F) f = V from hf]
  iapply Hk
  iexists f
  isplitr; · ipureintro; exact hf
  iexact H

/-- Storing to a held slot. -/
theorem store_slot {α : Type} {cs : CoreSpace} (M : Memref sig .tc cs s e) (r : Rect s) (hr : ∀ a, r.stride a = 1) (w V : r.shape.Idx → Elt F e)
    {hx : (M.access r).Stores Finset.univ} {hm : Finset.univ = Finset.univ ∨ ∀ a, r.stride a = 1} {k : PUnit → Prg F α} {Q : α → sProp 𝕄} :
    Slot c M r hr V ⊢ iprop((Slot c M r hr w -∗ Ends c (k ⟨⟩) Q) -∗ Ends c (.op (.store M r w Finset.univ hx hm) k) Q) := by
  unfold Slot owns
  iintro ⟨%f, %hf, H⟩ Hk
  iapply (wp_store 𝒱₀ (c : Thread nD τ) none Set.univ (m := M) (r := r) (w := w) (Mk := Finset.univ) (hx := hx) (f := f) (S := (M.slice r hr).view.set) (Finset.Subset.refl _)) $$ H
  iintro H
  iapply Hk
  iexists (M.access r).write (Elt F) f w Finset.univ
  isplitr; · ipureintro; exact View.read_write_univ _ _
  iexact H

end Steps

/-! ## Piles of slots -/

section Piles

variable (c : Dev nD) {sp : Space} {s : Shape} {e : EltTy} (M : Memref sig .tc sp s e)
  {T : Type} [Fintype T] [DecidableEq T] (off : T → Fin s.rank → Nat) (size : Fin s.rank → Nat)
  (inb : ∀ t a, off t a + size a ≤ s.size a)

/-- Slots that are slabs along one axis: disjoint when numbered apart, -/
theorem slab_disjoint (a : Fin s.rank) (n : T → ℕ) (hn : Function.Injective n) (ho : ∀ t, off t a = size a * n t) (t t' : T) (h : t ≠ t') :
    Disjoint (Rect.unit (off t) size (inb t)).set (Rect.unit (off t') size (inb t')).set := by
  refine Rect.unit_disjoint a ?_
  rw [ho, ho]
  rcases Nat.lt_or_gt_of_ne (fun e => h (hn e)) with hl | hl
  · left; rw [← Nat.mul_succ]; exact Nat.mul_le_mul_left _ hl
  · right; rw [← Nat.mul_succ]; exact Nat.mul_le_mul_left _ hl

/-- and every place in one of them when the numbers leave nothing out. -/
theorem slab_cover (a : Fin s.rank) (n : T → ℕ) (ho : ∀ t, off t a = size a * n t) (hpos : 0 < size a)
    (hb : ∀ t b, b ≠ a → off t b = 0 ∧ size b = s.size b) (hs : ∀ k, k * size a < s.size a → ∃ t, n t = k) :
    (Finset.univ : Finset T).biUnion (fun t => (Rect.unit (off t) size (inb t)).set) = Finset.univ := by
  refine Finset.eq_univ_of_forall fun x => ?_
  have hx := (x a).isLt
  obtain ⟨t, ht⟩ := hs ((x a).val / size a) (Nat.lt_of_le_of_lt (Nat.div_mul_le_self _ _) hx)
  refine Finset.mem_biUnion.mpr ⟨t, Finset.mem_univ _, Rect.mem_set_unit.mpr fun b => ?_⟩
  by_cases hba : b = a
  · subst hba
    rw [ho, ht]
    exact ⟨Nat.mul_div_le _ _, by have := Nat.lt_mul_div_succ (x b).val hpos; rw [Nat.mul_add, Nat.mul_one] at this; exact this⟩
  · obtain ⟨h1, h2⟩ := hb t b hba
    rw [h1, h2]
    exact ⟨Nat.zero_le _, by rw [Nat.zero_add]; exact (x b).isLt⟩

variable (hd : ∀ t t', t ≠ t' → Disjoint (Rect.unit (off t) size (inb t)).set (Rect.unit (off t') size (inb t')).set)
  (hcov : (Finset.univ : Finset T).biUnion (fun t => (Rect.unit (off t) size (inb t)).set) = Finset.univ)
include hd hcov

/-- A buffer held is the pile of its slots held, -/
theorem pile_split (X : s.Idx → Elt F e) :
    (owns (Ix := Unit) (Name := ℕ) (U := UU) (Lvl := ℕ) (c : Thread nD τ) M fullShare X : sProp 𝕄)
      ⊢ bigSep Finset.univ fun t => Slot c M (Rect.unit (off t) size (inb t)) (fun _ => rfl) (fun j => X ((Rect.unit (off t) size (inb t)).emb j)) :=
  owns_rects (c : Thread nD τ) M fullShare (fun t => Rect.unit (off t) size (inb t)) (fun _ _ => rfl) hd hcov X

/-- and back. -/
theorem pile_join (X : s.Idx → Elt F e) :
    (bigSep Finset.univ fun t => Slot c M (Rect.unit (off t) size (inb t)) (fun _ => rfl) (fun j => X ((Rect.unit (off t) size (inb t)).emb j)) : sProp 𝕄)
      ⊢ owns (Ix := Unit) (Name := ℕ) (U := UU) (Lvl := ℕ) (c : Thread nD τ) M fullShare X :=
  owns_of_rects (c : Thread nD τ) M fullShare (fun t => Rect.unit (off t) size (inb t)) (fun _ _ => rfl) hd hcov X

/-- The same with contents forgotten. -/
theorem pile_split_any (X : s.Idx → Elt F e) :
    (owns (Ix := Unit) (Name := ℕ) (U := UU) (Lvl := ℕ) (c : Thread nD τ) M fullShare X : sProp 𝕄)
      ⊢ bigSep Finset.univ fun t => iprop(∃ V, Slot c M (Rect.unit (off t) size (inb t)) (fun _ => rfl) V) :=
  (pile_split c M off size inb hd hcov X).trans (pile_mono fun t _ => by iintro H; iexists _; iexact H)

theorem pile_join_any :
    (bigSep Finset.univ fun t => iprop(∃ V, Slot c M (Rect.unit (off t) size (inb t)) (fun _ => rfl) V) : sProp 𝕄)
      ⊢ iprop(∃ X, owns (Ix := Unit) (Name := ℕ) (U := UU) (Lvl := ℕ) (c : Thread nD τ) M fullShare X) := by
  classical
  refine (BI.bigSep_exists_pi Finset.univ fun (t : T) (V : (Rect.unit (off t) size (inb t)).shape.Idx → Elt F e) => Slot c M (Rect.unit (off t) size (inb t)) (fun _ => rfl) V).trans ?_
  iintro ⟨%V, H⟩
  have hX : ∃ X : s.Idx → Elt F e, ∀ t j, X ((Rect.unit (off t) size (inb t)).emb j) = V t j := by
    have hi : Function.Injective fun p : (t : T) × (Rect.unit (off t) size (inb t)).shape.Idx => (Rect.unit (off p.1) size (inb p.1)).emb p.2 := by
      have hm (t : T) (j) : (Rect.unit (off t) size (inb t)).emb j ∈ (Rect.unit (off t) size (inb t)).set :=
        Rect.map_emb_univ (Rect.unit (off t) size (inb t)) ▸ Finset.mem_map_of_mem _ (Finset.mem_univ j)
      rintro ⟨t, j⟩ ⟨t', j'⟩ h
      have h : (Rect.unit (off t) size (inb t)).emb j = (Rect.unit (off t') size (inb t')).emb j' := h
      by_cases ht : t = t'
      · subst ht; rw [(Rect.unit (off t) size (inb t)).emb.injective h]
      · exact absurd (hm t' j') (Finset.disjoint_left.mp (hd t t' ht) (h ▸ hm t j))
    exact ⟨Function.extend _ (fun p : (t : T) × (Rect.unit (off t) size (inb t)).shape.Idx => V p.1 p.2) fun _ => Classical.choice inferInstance, fun t j => hi.extend_apply _ _ ⟨t, j⟩⟩
  obtain ⟨X, hX⟩ := hX
  iexists X
  iapply (pile_join c M off size inb hd hcov X)
  rw [show (fun t => Slot c M (Rect.unit (off t) size (inb t)) (fun _ => rfl) (fun j => X ((Rect.unit (off t) size (inb t)).emb j)) : T → sProp 𝕄)
      = fun t => Slot c M (Rect.unit (off t) size (inb t)) (fun _ => rfl) (V t) from funext fun t => congrArg _ (funext fun j => hX t j)]
  iexact H

end Piles

end Cert.KernelIdeal.Exchange

end
-- ==== Proof.Protocol.lean ====
/- The exchange's protocol: the devices a stage links, what each buffer holds, the cells, and the schedule:
   who pays each cell and what that hands over. -/
module

public import proofs.«01_k».proof.Proof.Slots

@[expose] public section

noncomputable section

namespace Cert.KernelIdeal.Exchange

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices a stage links -/

/-- The device stage `st` of `c` sends to, and the one it receives from. -/
def dst (c : Dev nD) (st : Fin 7) : Dev nD := ⟨(c.val + st.val + 1) % 8, Nat.mod_lt _ (by decide)⟩
def src (c : Dev nD) (st : Fin 7) : Dev nD := ⟨(c.val + 7 - st.val) % 8, Nat.mod_lt _ (by decide)⟩

theorem dst_src : ∀ (c : Dev nD) (st : Fin 7), dst (src c st) st = c := by decide
theorem src_dst : ∀ (c : Dev nD) (st : Fin 7), src (dst c st) st = c := by decide
theorem src_ne : ∀ (c : Dev nD) (st : Fin 7), src c st ≠ c := by decide
theorem src_inj : ∀ (c : Dev nD) (st st' : Fin 7), src c st = src c st' → st = st' := by decide
theorem src_onto : ∀ (c p : Dev nD), c ≠ p → ∃ st : Fin 7, src c st = p := by decide

/-- One stage's links, as a permutation of the devices. -/
def link (st : Fin 7) : Dev nD ≃ Dev nD := ⟨fun c => dst c st, fun c => src c st, fun c => src_dst c st, fun c => dst_src c st⟩

theorem toDev_dst (c : Dev nD) (st : Fin 7) : (⟨toDev c (BitVec.ofNat 32 st.val), toDev_lt c st⟩ : Dev nD) = dst c st :=
  Fin.ext (toDev_eq c st)
theorem sigDev_self (p : Fin 8) : (⟨sigDev (BitVec.ofNat 32 p.val), sigDev_lt p⟩ : Dev nD) = p := Fin.ext (sigDev_eq p)

/-! ## What the buffers hold -/

section Contents

variable (m : (ℓ : Loc nD τ sig) → Buf (Elt F) ℓ)

/-- The staged rows of `x` and the two staged scales. -/
def xIn (c : Dev nD) : (cc0_stg0_0 : Ref sig .tc).ty.Contents (Elt F) := iblk m c 0 t0_0
def sxIn (c : Dev nD) : (cc0_stg1_0 : Ref sig .tc).ty.Contents (Elt F) := iblk m c 1 t0_0
def swIn (c : Dev nD) : (cc0_stg2_0 : Ref sig .tc).ty.Contents (Elt F) := iblk m c 2 t0_0
/-- `w`. -/
def wIn (c : Dev nD) : (main_arg1 : Ref sig .tc).ty.Contents (Elt F) := m ((c : Thread nD τ).loc main_arg1)

abbrev r1 : Rect S1 := Rect.unit (s := S1) ![0] S1.size inb_S1_S1_0
abbrev first1 : r1.shape.Idx := Shape.Idx.first (numel1_S1.symm ▸ Nat.one_pos)

/-- The scale. -/
def scl (c : Dev nD) : F .f32 :=
  k0_pay1 ((sxM.access r1).read (Elt F) (sxIn m c) first1) ((swM.access r1).read (Elt F) (swIn m c) first1)
/-- The rows of `x`, narrowed. -/
def xbV (c : Dev nD) : Vec F S512x4096 .fp8e4m3 := k0_pay2 (xIn m c)
/-- The column block of stage `st`, with a unit axis in front. -/
def wBlk (c : Dev nD) (st : Fin 8) : Vec F S1x4096x256 .f32 :=
  shapeCast S1x4096x256 ((wSrc c st).view.read (Elt F) (wIn m c)) (by decide)
/-- Stage `st`'s codes and scales; the device's own block. -/
def codeV (c : Dev nD) (st : Fin 7) : Vec F S1x512x256 .i8 := k0_pay5 (scl m c) (wBlk m c st.castSucc) (xbV m c)
def sclV (c : Dev nD) (st : Fin 7) : Vec F S1x1x256 .f32 := k0_pay6 (scl m c) (wBlk m c st.castSucc) (xbV m c)
def ownV (c : Dev nD) : Vec F S512x256 .f32 := k0_pay3 (scl m c) (wBlk m c 7) (xbV m c)
/-- The block stage `st` receives, from its codes and scales. -/
def gotV (c : Dev nD) (st : Fin 7) : Vec F S512x256 .f32 := k0_pay18 (codeV m (src c st) st) (sclV m (src c st) st)

end Contents

/-! ## The cells -/

/-- The barrier; the arrival of column block `st`; stage `st`'s transfers: `0` codes left, `1` codes arrived,
    `2` scales left, `3` scales arrived. -/
inductive CellKind where
  | none | bar | w (st : Fin 8) | x (a : Fin 4) (st : Fin 7)
  deriving DecidableEq

/-- Which of them a semaphore is. -/
def kindOf : SemLoc sig → CellKind
  | .reg _ => .bar
  | .dma q => if h : q.val < 4 then .none else if h : q.val < 12 then .w ⟨q.val - 4, by omega⟩
      else if h : q.val < 40 then .x ⟨(q.val - 12) / 7, by omega⟩ ⟨(q.val - 12) % 7, by omega⟩ else .none

/-- The semaphore of transfer `a` of stage `st`. -/
abbrev xS (a : Fin 4) (st : Fin 7) : DmaSem sig := match a with
  | 0 => cSend st | 1 => cRecv st | 2 => sSend st | 3 => sRecv st

theorem kind_bar : kindOf (.reg barS) = .bar := rfl
theorem kind_w : ∀ st : Fin 8, kindOf (.dma (wS st)) = .w st := by decide
theorem kind_x : ∀ (a : Fin 4) (st : Fin 7), kindOf (.dma (xS a st)) = .x a st := by decide

abbrev barCell (c : Dev nD) : GSem nD τ sig := ((c : Thread nD τ), .reg barS)
abbrev wCell (c : Dev nD) (st : Fin 8) : GSem nD τ sig := ((c : Thread nD τ), .dma (wS st))
abbrev xCell (c : Dev nD) (a : Fin 4) (st : Fin 7) : GSem nD τ sig := ((c : Thread nD τ), .dma (xS a st))

/-- The amounts the copies credit: a column block, a block of codes, a row of scales. -/
abbrev NW : ℕ := (wvSl 0).view.dmaCredit
abbrev NC : ℕ := (commSl 0).view.dmaCredit
abbrev NS : ℕ := (rscSl 0).view.dmaCredit
theorem NW_pos : 0 < NW := View.dmaCredit_pos _ (by decide)
theorem NC_pos : 0 < NC := View.dmaCredit_pos _ (by decide)
theorem NS_pos : 0 < NS := View.dmaCredit_pos _ (by decide)
theorem wv_credit (st : Fin 8) : (wvSl st).view.dmaCredit = NW := rfl
theorem comm_credit (st : Fin 7) : (commSl st).view.dmaCredit = NC := rfl
theorem send_credit (st : Fin 7) : (sendSl st).view.dmaCredit = NC := rfl
theorem rsc_credit (st : Fin 7) : (rscSl st).view.dmaCredit = NS := rfl
theorem ssc_credit (st : Fin 7) : (sscSl st).view.dmaCredit = NS := rfl

/-- Transfer `a`'s amount. -/
def NX (a : Fin 4) : ℕ := if a.val < 2 then NC else NS
theorem NX_pos (a : Fin 4) : 0 < NX a := by unfold NX; split; exact NC_pos; exact NS_pos

/-! ## The schedule -/

section Sched

variable (m : (ℓ : Loc nD τ sig) → Buf (Elt F) ℓ)

abbrev WvSlot (c : Dev nD) (st : Fin 8) (V : Vec F S1x4096x256 .f32) : sProp 𝕄 := Slot c wvM (rW st) (fun _ => rfl) V
abbrev SendSlot (c : Dev nD) (st : Fin 7) (V : Vec F S1x512x256 .i8) : sProp 𝕄 := Slot c sendM (rC st) (fun _ => rfl) V
abbrev CommSlot (c : Dev nD) (st : Fin 7) (V : Vec F S1x512x256 .i8) : sProp 𝕄 := Slot c commM (rC st) (fun _ => rfl) V
abbrev SscSlot (c : Dev nD) (st : Fin 7) (V : Vec F S1x1x256 .f32) : sProp 𝕄 := Slot c sscM (rS st) (fun _ => rfl) V
abbrev RscSlot (c : Dev nD) (st : Fin 7) (V : Vec F S1x1x256 .f32) : sProp 𝕄 := Slot c rscM (rS st) (fun _ => rfl) V
/-- The columns of `w` stage `st` of device `c` copies. -/
abbrev WPart (c : Dev nD) (st : Fin 8) : sProp 𝕄 :=
  Slot c wM (Rect.unit (s := S4096x2048) (k0_off1 c (BitVec.ofNat 32 st.val)) S4096x256.size (k0_off1_inb c st)) (fun _ => rfl)
    ((wSrc c st).view.read (Elt F) (wIn m c))

/-- What signalling for stage `st` hands device `c`: the places stage `st` of `c` copies to. -/
def barPay (c : Dev nD) (st : Fin 7) : sProp 𝕄 := iprop((∃ V, CommSlot (dst c st) st V) ∗ (∃ V, RscSlot (dst c st) st V))
/-- What the arrival of a column block hands over: the slot holding it, and its source. -/
def wPay (c : Dev nD) (st : Fin 8) : sProp 𝕄 := iprop(WvSlot c st (wBlk m c st) ∗ WPart m c st)
/-- What the transfers hand over. -/
def xPay (c : Dev nD) (a : Fin 4) (st : Fin 7) : sProp 𝕄 := match a with
  | 0 => iprop(∃ V, SendSlot c st V)
  | 1 => CommSlot c st (codeV m (src c st) st)
  | 2 => iprop(∃ V, SscSlot c st V)
  | 3 => RscSlot c st (sclV m (src c st) st)

/-- Each cell has one round: the barrier's seven duties, one unit each, named by the stage of `c` they open; a copy's
    cell one duty of the copy's amount. -/
def Rd : Rounds.Schedule (GSem nD τ sig) (Fin 7) 𝕄 where
  duties g r := if r = 0 ∧ g.1.2 = .tc then (match kindOf g.2 with | .none => ∅ | .bar => Finset.univ | .w _ => {0} | .x _ _ => {0}) else ∅
  unitless _ := False
  amount g _ _ := match kindOf g.2 with | .none => 1 | .bar => 1 | .w _ => NW | .x a _ => NX a
  payload g _ d := match kindOf g.2 with
    | .none => iprop(emp) | .bar => barPay g.1.1 d | .w st => wPay m g.1.1 st | .x a st => xPay m g.1.1 a st
  amount_pos g _ _ _ := by
    split
    · exact Nat.one_pos
    · exact Nat.one_pos
    · exact NW_pos
    · exact NX_pos _

instance Rd_payload_storable (g : GSem nD τ sig) (r : ℕ) (d : Fin 7) :
    BI.Storable (upEmb : UEmb _ 𝕄) ((Rd (F := F) m).payload g r d) := by
  show BI.Storable upEmb (match kindOf g.2 with
    | .none => iprop(emp) | .bar => barPay g.1.1 d | .w st => wPay m g.1.1 st | .x a st => xPay m g.1.1 a st)
  unfold barPay wPay xPay
  (repeat' split) <;> infer_instance

variable (c : Dev nD)

theorem duties_bar : (Rd (F := F) m).duties (barCell c) 0 = Finset.univ := by dsimp only [Rd]; rw [if_pos ⟨rfl, rfl⟩]; rfl
theorem duties_w (st : Fin 8) : (Rd (F := F) m).duties (wCell c st) 0 = {0} := by
  dsimp only [Rd]; rw [if_pos ⟨rfl, rfl⟩, kind_w]
theorem duties_x (a : Fin 4) (st : Fin 7) : (Rd (F := F) m).duties (xCell c a st) 0 = {0} := by
  dsimp only [Rd]; rw [if_pos ⟨rfl, rfl⟩, kind_x]
theorem duties_later (g : GSem nD τ sig) : ∀ r, 1 ≤ r → (Rd (F := F) m).duties g r = ∅ := fun r hr => if_neg fun h => by omega

theorem amount_bar (d : Fin 7) : (Rd (F := F) m).amount (barCell c) 0 d = 1 := rfl
theorem amount_w (st : Fin 8) (d : Fin 7) : (Rd (F := F) m).amount (wCell c st) 0 d = NW := by dsimp only [Rd]; rw [kind_w]
theorem amount_x (a : Fin 4) (st d : Fin 7) : (Rd (F := F) m).amount (xCell c a st) 0 d = NX a := by dsimp only [Rd]; rw [kind_x]

theorem expect_bar : (Rd (F := F) m).expect (barCell c) 0 = 7 := by
  unfold Schedule.expect Schedule.amountOf
  rw [duties_bar, Finset.sum_congr rfl fun d _ => amount_bar m c d]; rfl
theorem expect_w (st : Fin 8) : (Rd (F := F) m).expect (wCell c st) 0 = NW := by
  unfold Schedule.expect Schedule.amountOf; rw [duties_w, Finset.sum_singleton, amount_w]
theorem expect_x (a : Fin 4) (st : Fin 7) : (Rd (F := F) m).expect (xCell c a st) 0 = NX a := by
  unfold Schedule.expect Schedule.amountOf; rw [duties_x, Finset.sum_singleton, amount_x]

theorem payload_bar (d : Fin 7) : (Rd (F := F) m).payload (barCell c) 0 d = barPay c d := rfl
theorem payload_w (st : Fin 8) (d : Fin 7) : (Rd (F := F) m).payload (wCell c st) 0 d = wPay m c st := by dsimp only [Rd]; rw [kind_w]
theorem payload_x (a : Fin 4) (st d : Fin 7) : (Rd (F := F) m).payload (xCell c a st) 0 d = xPay m c a st := by dsimp only [Rd]; rw [kind_x]

/-- What a wait for a whole round hands over. -/
theorem rest_bar : bigSep ((Rd (F := F) m).duties (barCell c) 0 \ ∅) (fun d => (Rd (F := F) m).payload (barCell c) 0 d) = bigSep Finset.univ (barPay c) := by
  rw [Finset.sdiff_empty, duties_bar]; rfl
theorem rest_w (st : Fin 8) : bigSep ((Rd (F := F) m).duties (wCell c st) 0 \ ∅) (fun d => (Rd (F := F) m).payload (wCell c st) 0 d) = wPay m c st := by
  rw [Finset.sdiff_empty, duties_w, bigSep_singleton, payload_w]
theorem rest_x (a : Fin 4) (st : Fin 7) :
    bigSep ((Rd (F := F) m).duties (xCell c a st) 0 \ ∅) (fun d => (Rd (F := F) m).payload (xCell c a st) 0 d) = xPay m c a st := by
  rw [Finset.sdiff_empty, duties_x, bigSep_singleton, payload_x]

end Sched

/-! ## What a device owes, and in what order the cells wait -/

section Owed

/-- The units device `c` owes at the arrivals of stage `st`'s codes and scales; -/
def owedX (c : Dev nD) (a : Fin 4) (st : Fin 7) : CellTallies nD τ sig Unit := tallyAt (xCell (dst c st) a st) () (NX a)
/-- at the arrivals of stage `n` and after; -/
def owedSends (c : Dev nD) (n : ℕ) : CellTallies nD τ sig Unit :=
  ∑ st ∈ Finset.univ.filter (fun st : Fin 7 => n ≤ st.val), (owedX c 3 st + owedX c 1 st)
/-- the stages whose opening device `c` has yet to signal before device number `n`; -/
def later (c : Dev nD) (n : ℕ) : Finset (Fin 7) := Finset.univ.filter fun st => n ≤ (src c st).val
/-- and before the signal to device number `n`. -/
def owedAll (c : Dev nD) (n : ℕ) : CellTallies nD τ sig Unit :=
  owedSends c 0 + ∑ st ∈ later c n, tallyAt (barCell (src c st)) () 1

theorem owedSends_step (c : Dev nD) (st : Fin 7) : owedSends c st.val = owedSends c (st.val + 1) + owedX c 3 st + owedX c 1 st := by
  unfold owedSends
  have h : Finset.univ.filter (fun t : Fin 7 => st.val ≤ t.val) = insert st (Finset.univ.filter fun t : Fin 7 => st.val + 1 ≤ t.val) := by
    revert st; decide
  rw [h, Finset.sum_insert (by simp), add_comm, add_assoc]
theorem owedSends_end (c : Dev nD) : owedSends c 7 = 0 := by
  unfold owedSends
  rw [show Finset.univ.filter (fun t : Fin 7 => 7 ≤ t.val) = ∅ by decide, Finset.sum_empty]

/-- The signal to `p = src c st` settles stage `st`; -/
theorem later_insert : ∀ (c : Dev nD) (st : Fin 7), later c (src c st).val = insert st (later c ((src c st).val + 1)) := by decide
theorem later_notMem : ∀ (c : Dev nD) (st : Fin 7), st ∉ later c ((src c st).val + 1) := by decide
/-- at its own number a device signals nothing. -/
theorem later_self : ∀ c : Dev nD, later c c.val = later c (c.val + 1) := by decide
theorem later_zero : ∀ c : Dev nD, later c 0 = Finset.univ := by decide
theorem later_eight : ∀ c : Dev nD, later c 8 = ∅ := by decide

theorem owedAll_step (c : Dev nD) (st : Fin 7) :
    owedAll c (src c st).val = owedAll c ((src c st).val + 1) + tallyAt (barCell (src c st)) () 1 := by
  unfold owedAll
  rw [later_insert, Finset.sum_insert (later_notMem c st), add_assoc, add_comm (tallyAt _ _ _)]
theorem owedAll_self (c : Dev nD) : owedAll c c.val = owedAll c (c.val + 1) := by unfold owedAll; rw [later_self]
theorem owedAll_end (c : Dev nD) : owedAll c 8 = owedSends c 0 := by
  unfold owedAll; rw [later_eight, Finset.sum_empty, add_zero]

theorem sum_pos {I : Type} {S : Finset I} {f : I → CellTallies nD τ sig Unit} {g : GSem nD τ sig} {u : Unit}
    (h : 0 < (∑ i ∈ S, f i) g u) : ∃ i ∈ S, 0 < f i g u := by
  classical
  induction S using Finset.induction_on with
  | empty => rw [Finset.sum_empty] at h; exact absurd h (Nat.lt_irrefl 0)
  | insert i S hi ih =>
    rw [Finset.sum_insert hi, Pi.add_apply, Finsupp.add_apply] at h
    by_cases h0 : 0 < f i g u
    · exact ⟨i, Finset.mem_insert_self _ _, h0⟩
    · obtain ⟨j, hj, hp⟩ := ih (by omega)
      exact ⟨j, Finset.mem_insert_of_mem hj, hp⟩
theorem tally_pos {g' g : GSem nD τ sig} {u : Unit} {k : ℕ} (h : 0 < (tallyAt g' () k : CellTallies nD τ sig Unit) g u) : g = g' := by
  rw [tallyAt_apply] at h
  by_contra hn
  rw [if_neg fun h' => hn h'.1] at h
  exact Nat.lt_irrefl 0 h

theorem owedSends_pos {c : Dev nD} {n : ℕ} {g : GSem nD τ sig} {u : Unit} (h : 0 < owedSends c n g u) :
    ∃ st : Fin 7, n ≤ st.val ∧ (g = xCell (dst c st) 3 st ∨ g = xCell (dst c st) 1 st) := by
  obtain ⟨st, hst, hp⟩ := sum_pos h
  refine ⟨st, (Finset.mem_filter.mp hst).2, ?_⟩
  rw [Pi.add_apply, Finsupp.add_apply] at hp
  by_cases h0 : 0 < owedX c 3 st g u
  · exact .inl (tally_pos h0)
  · exact .inr (tally_pos (show 0 < owedX c 1 st g u by omega))

theorem owedAll_pos {c : Dev nD} {n : ℕ} {g : GSem nD τ sig} {u : Unit} (h : 0 < owedAll c n g u) :
    (∃ d, g = barCell d) ∨ ∃ st : Fin 7, g = xCell (dst c st) 3 st ∨ g = xCell (dst c st) 1 st := by
  unfold owedAll at h
  rw [Pi.add_apply, Finsupp.add_apply] at h
  by_cases h0 : 0 < owedSends c 0 g u
  · obtain ⟨st, -, hs⟩ := owedSends_pos h0; exact .inr ⟨st, hs⟩
  · obtain ⟨st, -, hp⟩ := sum_pos (show 0 < (∑ st ∈ later c n, tallyAt (barCell (src c st)) () 1 : CellTallies nD τ sig Unit) g u by omega)
    exact .inl ⟨_, tally_pos hp⟩

/-- Waits are on device cells only, -/
def L (g : GSem nD τ sig) : Finset Unit := if g.1.2 = .tc then {()} else ∅
/-- the barrier first, then the arrivals in the order of the stages; every other cell waits for its own device alone. -/
def lv (g : GSem nD τ sig) (_ : Unit) : ℕ := match kindOf g.2 with
  | .none => 0 | .bar => 1 | .w _ => 0 | .x a st => if a = 1 ∨ a = 3 then 2 + st.val else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_x (c : Dev nD) (a : Fin 4) (st : Fin 7) : lv (xCell c a st) () = if a = 1 ∨ a = 3 then 2 + st.val else 0 := by
  dsimp only [lv]; rw [kind_x]
theorem lv_w (c : Dev nD) (st : Fin 8) : lv (wCell c st) () = 0 := by dsimp only [lv]; rw [kind_w]

/-- A device may wait on a cell of its own below all it owes. -/
theorem mayWait_of (c : Dev nD) (sm : SemLoc sig) (O : CellTallies nD τ sig Unit) (k : ℕ) (hk : lv ((c : Thread nD τ), sm) () ≤ k)
    (hL : ∀ g u, 0 < O g u → g.1.2 = .tc) (hO : ∀ g u, 0 < O g u → k < lv g u) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hL g u hg)]; exact Finset.mem_singleton_self _)
    (fun p hp => by rw [Finset.mem_singleton.mp hp]; exact hk) (fun g u hg => hO g u hg)

/-- What it owes from stage `n` on is above `1 + n`, -/
theorem mayWait_sends (c : Dev nD) (sm : SemLoc sig) (n : ℕ) (hk : lv ((c : Thread nD τ), sm) () ≤ 1 + n) :
    (levAts L lv : sProp 𝕄) ⊢ MayWait (c : Thread nD τ) sm () (owedSends c n) := by
  refine mayWait_of c sm _ (1 + n) hk (fun g u hg => ?_) fun g u hg => ?_
  · obtain ⟨st, -, rfl | rfl⟩ := owedSends_pos hg <;> rfl
  · obtain ⟨st, hn, rfl | rfl⟩ := owedSends_pos hg
    · rw [lv_x, if_pos (by decide)]; omega
    · rw [lv_x, if_pos (by decide)]; omega

/-- and all it owes is above `0`. -/
theorem mayWait_all (c : Dev nD) (sm : SemLoc sig) (n : ℕ) (hk : lv ((c : Thread nD τ), sm) () ≤ 0) :
    (levAts L lv : sProp 𝕄) ⊢ MayWait (c : Thread nD τ) sm () (owedAll c n) := by
  refine mayWait_of c sm _ 0 hk (fun g u hg => ?_) fun g u hg => ?_
  · obtain ⟨d, rfl⟩ | ⟨st, rfl | rfl⟩ := owedAll_pos hg <;> rfl
  · obtain ⟨d, rfl⟩ | ⟨st, rfl | rfl⟩ := owedAll_pos hg
    · exact Nat.one_pos
    · rw [lv_x, if_pos (by decide)]; omega
    · rw [lv_x, if_pos (by decide)]; omega

end Owed

end Cert.KernelIdeal.Exchange

end
-- ==== Proof.Steps.lean ====
/- What each stage takes and leaves. -/
module

public import proofs.«01_k».proof.Proof.Protocol

@[expose] public section

noncomputable section

namespace Cert.KernelIdeal.Exchange

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device knows -/

/-- A device's cells, named: the barrier, the column blocks' arrivals, the transfers. -/
abbrev Own : Type := Fin 8 ⊕ Fin 4 × Fin 7
abbrev osem : Own → SemLoc sig := fun | .inl st => .dma (wS st) | .inr (a, st) => .dma (xS a st)
abbrev csem : Option Own → SemLoc sig := fun | none => .reg barS | some k => osem k
abbrev kcell (ck : Dev nD × Option Own) : GSem nD τ sig := ((ck.1 : Thread nD τ), csem ck.2)
abbrev iW (st : Fin 8) : Option Own := some (.inl st)
abbrev iX (a : Fin 4) (st : Fin 7) : Option Own := some (.inr (a, st))

/-- Every cell's invariant, and that it has begun. -/
def records (K : Dev nD × Option Own → ℕ) : sProp 𝕄 :=
  iprop((bigSep Finset.univ fun ck : Dev nD × Option Own => cellInv ER (Rd m) (K ck) (kcell ck))
    ∗ bigSep Finset.univ fun ck : Dev nD × Option Own => reached ER (kcell ck) 0)

instance records_persistent (K : Dev nD × Option Own → ℕ) : BI.Persistent (records m K) := by unfold records; infer_instance

/-- With the order of the waits. -/
def World (K : Dev nD × Option Own → ℕ) : sProp 𝕄 := iprop(records m K ∗ levAts L lv)

instance World_persistent (K : Dev nD × Option Own → ℕ) : BI.Persistent (World m K) := by unfold World; infer_instance

variable (K : Dev nD × Option Own → ℕ)

theorem world_inv (ck : Dev nD × Option Own) : (World m K : sProp 𝕄) ⊢ cellInv ER (Rd m) (K ck) (kcell ck) := by
  unfold World records
  iintro ⟨⟨#HI, #HR⟩, #HL⟩
  iapply (show (bigSep Finset.univ fun ck : Dev nD × Option Own => (cellInv ER (Rd m) (K ck) (kcell ck) : sProp 𝕄)) ⊢ cellInv ER (Rd m) (K ck) (kcell ck)
    from bigSep_elim (Finset.mem_univ ck))
  iexact HI

theorem world_reached (ck : Dev nD × Option Own) : (World m K : sProp 𝕄) ⊢ reached ER (kcell ck) 0 := by
  unfold World records
  iintro ⟨⟨#HI, #HR⟩, #HL⟩
  iapply (show (bigSep Finset.univ fun ck : Dev nD × Option Own => (reached ER (kcell ck) 0 : sProp 𝕄)) ⊢ reached ER (kcell ck) 0
    from bigSep_elim (Finset.mem_univ ck))
  iexact HR

theorem world_lev : (World m K : sProp 𝕄) ⊢ levAts L lv := by
  unfold World
  iintro ⟨#HI, #HL⟩
  iexact HL

/-- What device `c` owes. -/
def Ow (c : Dev nD) (O : CellTallies nD τ sig Unit) : sProp 𝕄 := iprop(∃ W, owes (c : Thread nD τ) O W)

variable (c : Dev nD)

/-! ## The waits -/

/-- A wait for the whole round of a copy's cell of its own: the round's payload, and the cell at zero for good. -/
theorem wait_cell {α : Type} (i : Option Own) (q : DmaSem sig) (hq : csem i = .dma q) {spd : Space} {s : Shape} {e : EltTy} (N : ℕ)
    {sps : Space} {sm : Memref sig .tc sps s e} {dm : Memref sig .tc spd s e} {h₁ h₂} (hN : dm.view.dmaCredit = N)
    (hE : (Rd (F := F) m).expect ((c : Thread nD τ), .dma q) 0 = N) (P : sProp 𝕄)
    (hP : bigSep ((Rd (F := F) m).duties ((c : Thread nD τ), .dma q) 0 \ ∅) (fun d => (Rd (F := F) m).payload ((c : Thread nD τ), .dma q) 0 d) = P)
    (O : CellTallies nD τ sig Unit) (hO : (levAts L lv : sProp 𝕄) ⊢ MayWait (c : Thread nD τ) (.dma q) () O)
    {k : PUnit → Prg F α} {Q : α → sProp 𝕄} :
    iprop(World m K ∗ cred (tallyAt ((c : Thread nD τ), .dma q) () N) ∗ Ow c O ∗ atPos ER ((c : Thread nD τ), .dma q) 0 ∅ 0)
      ⊢ iprop(((Ow c O ∗ semVal ((c : Thread nD τ), .dma q) 0 ∗ P) -∗ Ends c (k ⟨⟩) Q) -∗ Ends c (.op (.waitDma2 q sm dm h₁ h₂) k) Q) := by
  subst hN hP
  unfold Ow
  iintro ⟨#HW, Hc, ⟨%W, Ho⟩, Hat⟩ Hk
  ihave #HI := (world_inv m K (c, i)) $$ HW
  simp only [kcell, hq]
  iapply (Rounds.wp_wait_rest_token 𝒱₀ ER (Rd m) (c : Thread nD τ) none (κ := K (c, i)) (wpE_waitDma2_eq 𝒱₀ (c : Thread nD τ) none Set.univ)
      (Set.mem_univ _) () (O := O) (W := W) (R := 0) (m := 0) (T := ∅) (by rw [Nat.zero_add, hE])) $$ [Hc Ho Hat]
  · isplitr; · iexact HI
    isplitl [Hc]; · iexact Hc
    isplitl [Ho]; · iexact Ho
    isplitr
    · iapply hO; iapply (world_lev m K); iexact HW
    iexact Hat
  iintro ⟨Ho, Hat, -, Hpay⟩
  imod (Rounds.cell_close ER (Rd m) (Set.mem_univ (K (c, i))) (fun h => h) (R := 0 + 1) (duties_later m _)) $$ [Hat] with Hz
  · isplitr; · iexact HI
    iexact Hat
  iapply Hk
  isplitl [Ho]; · iexists _; iexact Ho
  isplitl [Hz]; · iexact Hz
  iexact Hpay

/-- A transfer's wait. -/
theorem wait_x {α : Type} (a : Fin 4) (st : Fin 7) {spd : Space} {s : Shape} {e : EltTy}
    {sps : Space} {sm : Memref sig .tc sps s e} {dm : Memref sig .tc spd s e} {h₁ h₂} (hN : dm.view.dmaCredit = NX a)
    (n : ℕ) (hO : lv (xCell c a st) () ≤ 1 + n) {k : PUnit → Prg F α} {Q : α → sProp 𝕄} :
    iprop(World m K ∗ cred (tallyAt (xCell c a st) () (NX a)) ∗ Ow c (owedSends c n) ∗ atPos ER (xCell c a st) 0 ∅ 0)
      ⊢ iprop(((Ow c (owedSends c n) ∗ semVal (xCell c a st) 0 ∗ xPay m c a st) -∗ Ends c (k ⟨⟩) Q) -∗ Ends c (.op (.waitDma2 (xS a st) sm dm h₁ h₂) k) Q) :=
  wait_cell m K c (iX a st) (xS a st) rfl (NX a) hN (expect_x m c a st) _ (rest_x m c a st) _ (mayWait_sends c _ n hO)

/-- A column block's wait. -/
theorem wait_w {α : Type} (st : Fin 8) {spd : Space} {s : Shape} {e : EltTy}
    {sps : Space} {sm : Memref sig .tc sps s e} {dm : Memref sig .tc spd s e} {h₁ h₂} (hN : dm.view.dmaCredit = NW)
    (n : ℕ) {k : PUnit → Prg F α} {Q : α → sProp 𝕄} :
    iprop(World m K ∗ cred (tallyAt (wCell c st) () NW) ∗ Ow c (owedSends c n) ∗ atPos ER (wCell c st) 0 ∅ 0)
      ⊢ iprop(((Ow c (owedSends c n) ∗ semVal (wCell c st) 0 ∗ wPay m c st) -∗ Ends c (k ⟨⟩) Q) -∗ Ends c (.op (.waitDma2 (wS st) sm dm h₁ h₂) k) Q) :=
  wait_cell m K c (iW st) (wS st) rfl NW hN (expect_w m c st) _ (rest_w m c st) _ (mayWait_sends c _ n (by rw [lv_w]; exact Nat.zero_le _))

/-! ## The meeting -/

/-- What device `c` pays with to open stage `st` of the device it receives from there. -/
def Opening (st : Fin 7) : sProp 𝕄 :=
  iprop(dutyTok ER (barCell (src c st)) 0 st ∗ (∃ V, CommSlot c st V) ∗ (∃ V, RscSlot c st V))

/-- One device's turn among the signals. -/
theorem sig_step {α : Type} (p : Fin 8) {k : Prg F α} {Q : α → sProp 𝕄} :
    iprop(World m K ∗ Ow c (owedAll c p.val) ∗ bigSep (later c p.val) (Opening c))
      ⊢ iprop(((Ow c (owedAll c (p.val + 1)) ∗ bigSep (later c (p.val + 1)) (Opening c)) -∗ Ends c k Q) -∗ Ends c (sigThen c p k) Q) := by
  unfold sigThen
  by_cases h : notDev c (BitVec.ofNat 32 p.val) = 1#1
  · rw [dif_pos h]
    obtain ⟨st, rfl⟩ := src_onto c p ((notDev_eq c p).mp h)
    rw [show (⟨sigDev (BitVec.ofNat 32 (src c st).val), sigDev_lt (src c st)⟩ : Dev nD) = src c st from sigDev_self (src c st)]
    simp only [semSignalWord, Prog.lift, Prog.bind_op, Prog.bind_ret, Prog.pure_eq_ret]
    unfold Ow
    rw [later_insert, pile_insert (later_notMem c st), owedAll_step]
    iintro ⟨#HW, ⟨%W, Ho⟩, Hop, Hrest⟩ Hk
    unfold Opening
    icases Hop with ⟨Ht, Hc, Hr⟩
    iapply (Rounds.wp_signal 𝒱₀ ER (Rd m) (c : Thread nD τ) none (dst := (src c st : Thread nD τ)) (κ := K (src c st, none))
      (d := st) (by rw [duties_bar]; exact Finset.mem_univ _) ((amount_bar m (src c st) st).trans (by decide)) () (owedAll c ((src c st).val + 1)) rfl)
      $$ [Ho Ht Hc Hr]
    · isplitr; · iapply (world_inv m K (src c st, none)); iexact HW
      isplitl [Ho]; · iexact Ho
      isplitl [Ht]; · iexact Ht
      isplitl [Hc Hr]
      · rw [payload_bar]; unfold barPay; rw [dst_src]
        isplitl [Hc] <;> iassumption
      iapply (world_reached m K (src c st, none)); iexact HW
    iintro Ho
    iapply Hk
    isplitl [Ho]; · iexists W; iexact Ho
    iexact Hrest
  · rw [dif_neg h]
    have hp : c = p := by by_contra hne; exact h ((notDev_eq c p).mpr hne)
    subst hp
    rw [later_self, owedAll_self]
    iintro ⟨#HW, Ho, Hrest⟩ Hk
    iapply Hk
    isplitl [Ho] <;> iassumption

/-- The wait for all the others. -/
theorem meet_wait {α : Type} {k : PUnit → Prg F α} {Q : α → sProp 𝕄} :
    iprop(World m K ∗ cred (tallyAt (barCell c) () 7) ∗ Ow c (owedSends c 0) ∗ atPos ER (barCell c) 0 ∅ 0)
      ⊢ iprop(((Ow c (owedSends c 0) ∗ semVal (barCell c) 0 ∗ bigSep Finset.univ (barPay c)) -∗ Ends c (k ⟨⟩) Q)
        -∗ Ends c (Prog.bind (semWaitWord barS 7#32) k) Q) := by
  simp only [semWaitWord, Prog.lift, Prog.bind_op, Prog.bind_ret, Prog.pure_eq_ret]
  unfold Ow
  iintro ⟨#HW, Hc, ⟨%W, Ho⟩, Hat⟩ Hk
  ihave #HI := (world_inv m K (c, none)) $$ HW
  iapply (Rounds.wp_wait_rest_token 𝒱₀ ER (Rd m) (c : Thread nD τ) none (κ := K (c, none)) (wpE_semWait_eq 𝒱₀ (c : Thread nD τ) none Set.univ)
      (Set.mem_univ _) () (O := owedSends c 0) (W := W) (R := 0) (m := 0) (T := ∅) (by rw [expect_bar]; decide)) $$ [Hc Ho Hat]
  · isplitr; · iexact HI
    isplitl [Hc]; · iexact Hc
    isplitl [Ho]; · iexact Ho
    isplitr
    · iapply (mayWait_sends (F := F) c (.reg barS) 0 (by rw [lv_bar])); iapply (world_lev m K); iexact HW
    iexact Hat
  iintro ⟨Ho, Hat, -, Hpay⟩
  imod (Rounds.cell_close ER (Rd m) (Set.mem_univ (K (c, none))) (fun h => h) (R := 0 + 1) (duties_later m _)) $$ [Hat] with Hz
  · isplitr; · iexact HI
    iexact Hat
  iapply Hk
  isplitl [Ho]; · iexists _; iexact Ho
  isplitl [Hz]; · iexact Hz
  rw [← rest_bar]; iexact Hpay

/-! ## The column blocks -/

/-- Column block `st`: before its copy, during it, and after it has been read. -/
def Col0 (st : Fin 8) : sProp 𝕄 :=
  iprop(WPart m c st ∗ (∃ V, WvSlot c st V) ∗ dutyTok ER (wCell c st) 0 0 ∗ atPos ER (wCell c st) 0 ∅ 0)
def Col1 (st : Fin 8) : sProp 𝕄 := iprop(cred (tallyAt (wCell c st) () NW) ∗ atPos ER (wCell c st) 0 ∅ 0)
def Col2 (st : Fin 8) : sProp 𝕄 := iprop(WPart m c st ∗ (∃ V, WvSlot c st V) ∗ semVal (wCell c st) 0)

theorem castW : S1x4096x256.ShapeCasts S4096x256 := by decide
theorem castW' : S4096x256.ShapeCasts S1x4096x256 := by decide
theorem castC : S1x512x256.ShapeCasts S512x256 := by decide
theorem castC' : S512x256.ShapeCasts S1x512x256 := by decide
theorem castS : S1x1x256.ShapeCasts S1x256 := by decide
theorem castS' : S1x256.ShapeCasts S1x1x256 := by decide

/-- The start of a column block's copy. -/
theorem copy_step (st : Fin 8) {Q : PUnit → sProp 𝕄} :
    iprop(World m K ∗ Col0 m c st) ⊢ iprop((Col1 c st -∗ Q ⟨⟩) -∗ Ends c (copyStage c st) Q) := by
  unfold copyStage Col0 Col1
  simp only [Prog.lift]
  iintro ⟨#HW, Hw, ⟨%V, Hv⟩, Ht, Hat⟩ Hk
  ihave Hv' := (Entails.of_eq (slot_squeeze (F := F) c wvM (rW st) (fun _ => rfl) squeezes_S1x4096x256_S4096x256 castW castW' V)) $$ Hv
  ihave Hw := (owns_open (F := F) c (wSrc c st) _) $$ Hw
  ihave Hv := (owns_open (F := F) c (wvSl st) _) $$ Hv'
  icases Hw with ⟨%fs, %hs, Hw⟩
  icases Hv with ⟨%fd, %hd, Hv⟩
  iapply (Rounds.wp_copy_pointsTo 𝒱₀ ER (Rd m) (c : Thread nD τ) none (src := wSrc c st) (dst := wvSl st) (sem := .dma (wS st))
      (κ := K (c, iW st)) (fs := fs) (fd := fd) (r := 0) (d := 0)
      (by rw [duties_w]; exact Finset.mem_singleton_self _) () NW rfl (amount_w m c st 0) ?_) $$ [Hw Hv Ht]
  · rw [payload_w]
    unfold wPay WPart WvSlot
    rw [slot_squeeze (F := F) c wvM (rW st) (fun _ => rfl) squeezes_S1x4096x256_S4096x256 castW castW']
    iintro ⟨Hv, Hw⟩
    isplitl [Hv]
    · iapply (owns_close (F := F) c (wvSl st) ((wvSl st).view.write (Elt F) fd ((wSrc c st).view.read (Elt F) fs) Finset.univ)
        ((View.read_write_univ _ _).trans (hs.trans (shapeCast_shapeCast _ castW' castW).symm)))
      iexact Hv
    · iapply (owns_close (F := F) c (wSrc c st) fs hs)
      iexact Hw
  · isplitr; · iapply (world_inv m K (c, iW st)); iexact HW
    isplitl [Hw]; · iexact Hw
    isplitl [Hv]; · iexact Hv
    isplitl [Ht]; · iexact Ht
    iapply (world_reached m K (c, iW st)); iexact HW
  iintro Hc
  rw [wp_ret]; imodintro
  iapply Hk
  isplitl [Hc] <;> iassumption

/-! ## The narrowed rows -/

theorem zero2 : (![0, 0] : Fin 2 → Nat) = fun _ => 0 := funext fun a => by fin_cases a <;> rfl

/-- The rectangle that is all of a 512×4096 buffer. -/
abbrev rX : Rect S512x4096 := Rect.unit (s := S512x4096) ![0, 0] S512x4096.size inb_S512x4096_S512x4096_0_0

/-- Device `c` holds the whole of buffer `b` at `X`. -/
abbrev Holds (b : Ref sig .tc) (X : b.ty.Contents (Elt F)) : sProp 𝕄 := ((c : Thread nD τ).loc b) ↦{fullShare} X

/-- `x`, narrowed into its buffer. -/
theorem xb_step {Q : PUnit → sProp 𝕄} :
    iprop(Holds c cc0_stg0_0 (xIn m c) ∗ ∃ f, Holds c cc0_scratch0 f)
      ⊢ iprop(((Holds c cc0_stg0_0 (xIn m c) ∗ Holds c cc0_scratch0 (xbV m c)) -∗ Q ⟨⟩) -∗ Ends (F := F) c xbStage Q) := by
  unfold xbStage
  simp only [Prog.lift, Prog.bind_op, Prog.bind_ret]
  iintro ⟨Hx, ⟨%f, Hb⟩⟩ Hk
  iapply (wp_load 𝒱₀ (c : Thread nD τ) none Set.univ (m := xM) (Finset.subset_univ _)) $$ Hx; iintro Hx
  rw [show xM.view.readAt (Elt F) rX.toLoadRect (xIn m c) = xIn m c from Memref.readAt_unit_zero (Elt F) cc0_stg0_0 zero2 _ _]
  iapply (wp_load 𝒱₀ (c : Thread nD τ) none Set.univ (m := xbM) (Finset.subset_univ _)) $$ Hb; iintro Hb
  iapply (wp_store 𝒱₀ (c : Thread nD τ) none Set.univ (m := xbM) (r := rX) (Mk := Finset.univ) (Finset.subset_univ _)) $$ Hb; iintro Hb
  rw [show (xbM.access rX : View sig .tc _ _ _).write (Elt F) f (k0_pay2 (xIn m c)) Finset.univ = xbV m c from
    Memref.write_access_unit_zero_univ (Elt F) cc0_scratch0 zero2 _ _ _]
  rw [wp_ret]; imodintro
  iapply Hk
  isplitl [Hx] <;> iassumption

/-- The wait for a column block and the two readings. -/
theorem read_step (st : Fin 8) (n : ℕ) {Q : Vec F S1x4096x256 .f32 × Vec F S512x4096 .fp8e4m3 → sProp 𝕄} :
    iprop(World m K ∗ Ow c (owedSends c n) ∗ Holds c cc0_scratch0 (xbV m c) ∗ Col1 c st)
      ⊢ iprop(((Ow c (owedSends c n) ∗ Holds c cc0_scratch0 (xbV m c) ∗ Col2 m c st) -∗ Q (wBlk m c st, xbV m c)) -∗ Ends c (readStage c st) Q) := by
  unfold readStage Col1 Col2
  simp only [Prog.lift, Prog.bind_op, Prog.bind_ret, Prog.pure_eq_ret]
  iintro ⟨#HW, Ho, Hb, Hc, Hat⟩ Hk
  iapply (wait_w m K c st (wv_credit st) n) $$ [Ho Hc Hat]
  · isplitr; · iexact HW
    isplitl [Hc]; · iexact Hc
    isplitl [Ho] <;> iassumption
  iintro ⟨Ho, Hz, Hp⟩
  unfold wPay
  icases Hp with ⟨Hv, Hw⟩
  iapply (load_slot (F := F) c wvM (rW st) (fun _ => rfl) (wBlk m c st)) $$ Hv; iintro Hv
  iapply (wp_load 𝒱₀ (c : Thread nD τ) none Set.univ (m := xbM) (Finset.subset_univ _)) $$ Hb; iintro Hb
  rw [show xbM.view.readAt (Elt F) rX.toLoadRect (xbV m c) = xbV m c from Memref.readAt_unit_zero (Elt F) cc0_scratch0 zero2 _ _]
  rw [wp_ret]; imodintro
  iapply Hk
  isplitl [Ho]; · iexact Ho
  isplitl [Hb]; · iexact Hb
  isplitl [Hw]; · iexact Hw
  isplitl [Hv]; · iexists _; iexact Hv
  iexact Hz

/-! ## The sends -/

/-- The start of transfer pair `(a, a')` of stage `st`: a slot sent to the same slot of another buffer of device `n`. -/
theorem send_step {α : Type} (a a' : Fin 4) (st : Fin 7) {sp : Space} {s s' : Shape} {e : EltTy} (M M' : Memref sig .tc sp s e) (r : Rect s)
    (hr : ∀ b, r.stride b = 1) (hq : r.shape.Squeezes s') (hc : r.shape.ShapeCasts s') (hc' : s'.ShapeCasts r.shape)
    (n : Dev nD) (hn : n = dst c st) {hsc} {h₁ h₂ h₃} (V V' : r.shape.Idx → Elt F e) (N : ℕ) (ha : NX a = N) (ha' : NX a' = N)
    (hN : ((M'.slice r hr).squeeze s' hq).view.amount (.dma (xS a' st)) = N)
    (hP : Slot c M r hr V ⊢ xPay m c a st) (hP' : Slot n M' r hr V ⊢ xPay m n a' st)
    (O : CellTallies nD τ sig Unit) {k : PUnit → Prg F α} {Q : α → sProp 𝕄} :
    iprop(World m K ∗ Slot c M r hr V ∗ Slot n M' r hr V' ∗ Ow c (O + owedX c a' st)
        ∗ dutyTok ER (xCell c a st) 0 0 ∗ dutyTok ER (xCell n a' st) 0 0)
      ⊢ iprop(((cred (tallyAt (xCell c a st) () (NX a)) ∗ Ow c O) -∗ Ends c (k ⟨⟩) Q)
        -∗ Ends c (.op (.enqueueDma ((M.slice r hr).squeeze s' hq)
            (.remote (Dev.tc n : Thread nD τ) ((M'.slice r hr).squeeze s' hq) (.dma (xS a st)) hsc) (.dma (xS a' st)) h₁ h₂ h₃) k) Q) := by
  have hO : O + owedX c a' st = O + tallyAt (xCell n a' st) () N := by unfold owedX; rw [ha', ← hn]
  rw [hO]
  clear hO hn
  rw [slot_squeeze (F := F) c M r hr hq hc hc', slot_squeeze (F := F) n M' r hr hq hc hc'] at *
  unfold Ow
  iintro ⟨#HW, Hs, Hd, ⟨%W, Ho⟩, Ht, Ht'⟩ Hk
  ihave Hs := (owns_open (F := F) c _ _) $$ Hs
  ihave Hd := (owns_open (F := F) n _ _) $$ Hd
  icases Hs with ⟨%fs, %hs, Hs⟩
  icases Hd with ⟨%fd, %hd, Hd⟩
  iapply (Rounds.wp_send_pointsTo 𝒱₀ ER (Rd m) (c : Thread nD τ) none (c' := (n : Thread nD τ))
      (src := (M.slice r hr).squeeze s' hq) (dst := (M'.slice r hr).squeeze s' hq) (sS := .dma (xS a st)) (sem := .dma (xS a' st)) (κ₁ := K (c, iX a st)) (κ₂ := K (n, iX a' st))
      (r₁ := 0) (r₂ := 0) (d₁ := 0) (d₂ := 0) (fs := fs) (fd := fd)
      (by rw [duties_x]; exact Finset.mem_singleton_self _) (by rw [duties_x]; exact Finset.mem_singleton_self _)
      () () N hN ((amount_x m c a st 0).trans ha) ((amount_x m n a' st 0).trans ha') O rfl (W := W) ?_ ?_) $$ [Hs Hd Ho Ht Ht']
  · rw [payload_x]
    exact (owns_close (F := F) c ((M.slice r hr).squeeze s' hq) fs hs).trans hP
  · rw [payload_x]
    exact (owns_close (F := F) n ((M'.slice r hr).squeeze s' hq) _ ((View.read_write_univ _ _).trans hs)).trans hP'
  · isplitr; · iapply (world_inv m K (c, iX a st)); iexact HW
    isplitr; · iapply (world_inv m K (n, iX a' st)); iexact HW
    isplitl [Hs]; · iexact Hs
    isplitl [Hd]; · iexact Hd
    isplitl [Ho]; · iexact Ho
    isplitl [Ht]; · iexact Ht
    isplitr; · iapply (world_reached m K (c, iX a st)); iexact HW
    isplitl [Ht']; · iexact Ht'
    iapply (world_reached m K (n, iX a' st)); iexact HW
  iintro ⟨Hc, Ho⟩
  iapply Hk
  rw [ha]
  isplitl [Hc]; · iexact Hc
  iexists W; iexact Ho

/-- A program that has ended. -/
theorem ends_ret {α : Type} {a : α} {Q : α → sProp 𝕄} : Q a ⊢ Ends c (.ret a : Prg F α) Q := by
  unfold Ends
  rw [wp_ret]
  iintro H; imodintro; iexact H

/-- One program after another. -/
theorem ends_bind {α β : Type} {p : Prg F α} {k : α → Prg F β} {Q : β → sProp 𝕄} :
    Ends c p (fun a => Ends c (k a) Q) ⊢ Ends c (p >>= k) Q :=
  Entails.of_eq (wp_bind ..).symm

/-- Block `st` sent: before its stage, in flight, and after both copies have left. -/
def Send0 (st : Fin 7) : sProp 𝕄 :=
  iprop((∃ V, SendSlot c st V) ∗ (∃ V, SscSlot c st V)
    ∗ (dutyTok ER (xCell c 0 st) 0 0 ∗ dutyTok ER (xCell c 2 st) 0 0)
    ∗ (dutyTok ER (xCell (dst c st) 1 st) 0 0 ∗ dutyTok ER (xCell (dst c st) 3 st) 0 0)
    ∗ atPos ER (xCell c 0 st) 0 ∅ 0 ∗ atPos ER (xCell c 2 st) 0 ∅ 0)
def Send1 (st : Fin 7) : sProp 𝕄 :=
  iprop((cred (tallyAt (xCell c 0 st) () (NX 0)) ∗ cred (tallyAt (xCell c 2 st) () (NX 2)))
    ∗ atPos ER (xCell c 0 st) 0 ∅ 0 ∗ atPos ER (xCell c 2 st) 0 ∅ 0)
def Send2 (st : Fin 7) : sProp 𝕄 :=
  iprop((∃ V, SendSlot c st V) ∗ (∃ V, SscSlot c st V) ∗ semVal (xCell c 0 st) 0 ∗ semVal (xCell c 2 st) 0)

/-- A working stage: the column block read, its codes and scales computed, stored and sent. -/
theorem work_step (st : Fin 7) {Q : PUnit → sProp 𝕄} :
    iprop(World m K ∗ Ow c (owedSends c st.val) ∗ Holds c cc0_scratch0 (xbV m c) ∗ Col1 c st.castSucc ∗ Send0 c st ∗ barPay c st)
      ⊢ iprop(((Ow c (owedSends c (st.val + 1)) ∗ Holds c cc0_scratch0 (xbV m c) ∗ Col2 m c st.castSucc ∗ Send1 c st) -∗ Q ⟨⟩)
        -∗ Ends c (workStage c (scl m c) st) Q) := by
  unfold workStage
  unfold Send0 Send1 barPay
  rw [← toDev_dst c st]
  simp only [Prog.lift, Prog.bind_op, Prog.bind_ret]
  iintro ⟨#HW, Ho, Hb, Hcol, ⟨⟨%V, Hs⟩, ⟨%V', Hs'⟩, ⟨Ht0, Ht2⟩, ⟨Ht1, Ht3⟩, Hat⟩, ⟨%U, Hd⟩, ⟨%U', Hd'⟩⟩ Hk
  iapply (ends_bind (F := F) c)
  iapply (read_step m K c st.castSucc st.val) $$ [Ho Hb Hcol]
  · isplitr; · iexact HW
    isplitl [Ho]; · iexact Ho
    isplitl [Hb] <;> iassumption
  iintro ⟨Ho, Hb, Hcol⟩
  iapply (load_slot (F := F) c sendM (rC st) (fun _ => rfl) V) $$ Hs; iintro Hs
  iapply (store_slot (F := F) c sendM (rC st) (fun _ => rfl) (codeV m c st) V) $$ Hs; iintro Hs
  iapply (load_slot (F := F) c sscM (rS st) (fun _ => rfl) V') $$ Hs'; iintro Hs'
  iapply (store_slot (F := F) c sscM (rS st) (fun _ => rfl) (sclV m c st) V') $$ Hs'; iintro Hs'
  rw [owedSends_step]
  iapply (send_step m K c 0 1 st sendM commM (rC st) (fun _ => rfl) squeezes_S1x512x256_S512x256 castC castC' _ (toDev_dst c st) (codeV m c st) U NC rfl rfl
    (comm_credit st) (show _ ⊢ iprop(∃ V, SendSlot c st V) by iintro H; iexists _; iexact H) (by show _ ⊢ CommSlot _ _ _; rw [toDev_dst, src_dst]) _) $$ [Hs Hd Ho Ht0 Ht1]
  · isplitr; · iexact HW
    isplitl [Hs]; · iexact Hs
    isplitl [Hd]; · iexact Hd
    isplitl [Ho]; · iexact Ho
    isplitl [Ht0] <;> iassumption
  iintro ⟨Hc0, Ho⟩
  iapply (send_step m K c 2 3 st sscM rscM (rS st) (fun _ => rfl) squeezes_S1x1x256_S1x256 castS castS' _ (toDev_dst c st) (sclV m c st) U' NS rfl rfl
    (rsc_credit st) (show _ ⊢ iprop(∃ V, SscSlot c st V) by iintro H; iexists _; iexact H) (by show _ ⊢ RscSlot _ _ _; rw [toDev_dst, src_dst]) _) $$ [Hs' Hd' Ho Ht2 Ht3]
  · isplitr; · iexact HW
    isplitl [Hs']; · iexact Hs'
    isplitl [Hd']; · iexact Hd'
    isplitl [Ho]; · iexact Ho
    isplitl [Ht2] <;> iassumption
  iintro ⟨Hc2, Ho⟩
  iapply (ends_ret (F := F) c)
  iapply Hk
  isplitl [Ho]; · iexact Ho
  isplitl [Hb]; · iexact Hb
  isplitl [Hcol]; · iexact Hcol
  isplitl [Hc0 Hc2]
  · isplitl [Hc0] <;> iassumption
  iexact Hat

/-- The waits for a block to have left. -/
theorem left_step (st : Fin 7) {Q : PUnit → sProp 𝕄} :
    iprop(World m K ∗ Ow c (owedSends c 7) ∗ Send1 c st)
      ⊢ iprop(((Ow c (owedSends c 7) ∗ Send2 c st) -∗ Q ⟨⟩) -∗ Ends (F := F) c (leftStage st) Q) := by
  unfold leftStage Send1 Send2
  simp only [Prog.lift, Prog.bind_op, Prog.bind_ret]
  iintro ⟨#HW, Ho, ⟨Hc0, Hc2⟩, Ha0, Ha2⟩ Hk
  iapply (wait_x m K c 0 st (send_credit st) 7 (by rw [lv_x, if_neg (by decide)]; exact Nat.zero_le _)) $$ [Ho Hc0 Ha0]
  · isplitr; · iexact HW
    isplitl [Hc0]; · iexact Hc0
    isplitl [Ho] <;> iassumption
  iintro ⟨Ho, Hz0, Hp0⟩
  iapply (wait_x m K c 2 st (ssc_credit st) 7 (by rw [lv_x, if_neg (by decide)]; exact Nat.zero_le _)) $$ [Ho Hc2 Ha2]
  · isplitr; · iexact HW
    isplitl [Hc2]; · iexact Hc2
    isplitl [Ho] <;> iassumption
  iintro ⟨Ho, Hz2, Hp2⟩
  ihave Hp0 := (show xPay m c 0 st ⊢ iprop(∃ V, SendSlot c st V) from .rfl) $$ Hp0
  ihave Hp2 := (show xPay m c 2 st ⊢ iprop(∃ V, SscSlot c st V) from .rfl) $$ Hp2
  iapply (ends_ret (F := F) c)
  iapply Hk
  isplitl [Ho]; · iexact Ho
  isplitl [Hp0]; · iexact Hp0
  isplitl [Hp2]; · iexact Hp2
  isplitl [Hz0] <;> iassumption

/-! ## The result's blocks -/

/-- The rows stage `t` of device `c` writes: those computed on the device it receives from, its own at the last. -/
def outOff (c : Dev nD) (t : Fin 8) : Fin 2 → Nat := ![512 * ((c.val + 7 - t.val) % 8), 0]
theorem outOff_inb : ∀ (c : Dev nD) (t : Fin 8) (a : Fin 2), outOff c t a + S512x256.size a ≤ S4096x256.size a := by
  intro c t a
  have h := Nat.mod_lt (c.val + 7 - t.val) (show 0 < 8 by decide)
  fin_cases a
  · show 512 * ((c.val + 7 - t.val) % 8) + 512 ≤ 4096; omega
  · show 0 + 256 ≤ 256; omega
theorem outOff_drain (st : Fin 7) : k0_off2 c (BitVec.ofNat 32 st.val) = outOff c st.castSucc := by
  rw [k0_off2_eq]; rfl
theorem outOff_own : k0_off3 c = outOff c 7 := by
  rw [k0_off3_eq]; unfold outOff
  have h : (c.val + 7 - (7 : Fin 8).val) % 8 = c.val := by
    show (c.val + 7 - 7) % 8 = c.val
    rw [Nat.add_sub_cancel]; exact Nat.mod_eq_of_lt c.isLt
  rw [h]
abbrev OutSlot (t : Fin 8) (V : Vec F S512x256 .f32) : sProp 𝕄 :=
  Slot c oM (Rect.unit (s := S4096x256) (outOff c t) S512x256.size (outOff_inb c t)) (fun _ => rfl) V

/-- A slot at an offset written another way. -/
theorem slot_off {sp : Space} {s : Shape} {e : EltTy} (M : Memref sig .tc sp s e) {off off' size : Fin s.rank → Nat} (h : off = off')
    (i : ∀ a, off a + size a ≤ s.size a) (i' : ∀ a, off' a + size a ≤ s.size a) (V : (⟨s.rank, size⟩ : Shape).Idx → Elt F e) :
    (Slot c M (Rect.unit off size i) (fun _ => rfl) V : sProp 𝕄) = Slot c M (Rect.unit off' size i') (fun _ => rfl) V := by
  subst h; rfl

/-- Block `st` received: before its stage and after. -/
def Recv0 (st : Fin 7) : sProp 𝕄 :=
  iprop((cred (tallyAt (xCell c 1 st) () (NX 1)) ∗ cred (tallyAt (xCell c 3 st) () (NX 3)))
    ∗ (atPos ER (xCell c 1 st) 0 ∅ 0 ∗ atPos ER (xCell c 3 st) 0 ∅ 0) ∗ ∃ V, OutSlot c st.castSucc V)
def Recv1 (st : Fin 7) : sProp 𝕄 :=
  iprop(((∃ V, CommSlot c st V) ∗ (∃ V, RscSlot c st V)) ∗ (semVal (xCell c 1 st) 0 ∗ semVal (xCell c 3 st) 0) ∗ OutSlot c st.castSucc (gotV m c st))

/-- The arrival of a block, and its values written. -/
theorem drain_step (st : Fin 7) (n : ℕ) (hn : st.val + 1 ≤ n) {Q : PUnit → sProp 𝕄} :
    iprop(World m K ∗ Ow c (owedSends c n) ∗ Recv0 c st)
      ⊢ iprop(((Ow c (owedSends c n) ∗ Recv1 m c st) -∗ Q ⟨⟩) -∗ Ends (F := F) c (drainStage c st) Q) := by
  unfold drainStage Recv0 Recv1
  simp only [Prog.lift, Prog.bind_op, Prog.bind_ret]
  iintro ⟨#HW, Ho, ⟨Hc1, Hc3⟩, ⟨Ha1, Ha3⟩, ⟨%V, Hout⟩⟩ Hk
  iapply (wait_x m K c 1 st (comm_credit st) n (by rw [lv_x, if_pos (by decide)]; omega)) $$ [Ho Hc1 Ha1]
  · isplitr; · iexact HW
    isplitl [Hc1]; · iexact Hc1
    isplitl [Ho] <;> iassumption
  iintro ⟨Ho, Hz1, Hp1⟩
  iapply (wait_x m K c 3 st (rsc_credit st) n (by rw [lv_x, if_pos (by decide)]; omega)) $$ [Ho Hc3 Ha3]
  · isplitr; · iexact HW
    isplitl [Hc3]; · iexact Hc3
    isplitl [Ho] <;> iassumption
  iintro ⟨Ho, Hz3, Hp3⟩
  ihave Hp1 := (show xPay m c 1 st ⊢ CommSlot c st (codeV m (src c st) st) from .rfl) $$ Hp1
  ihave Hp3 := (show xPay m c 3 st ⊢ RscSlot c st (sclV m (src c st) st) from .rfl) $$ Hp3
  iapply (load_slot (F := F) c commM (rC st) (fun _ => rfl) _) $$ Hp1; iintro Hp1
  iapply (load_slot (F := F) c rscM (rS st) (fun _ => rfl) _) $$ Hp3; iintro Hp3
  ihave Hout := (Entails.of_eq (slot_off (F := F) c oM (outOff_drain c st).symm (outOff_inb c st.castSucc) (k0_off2_inb c st) V)) $$ Hout
  iapply (load_slot (F := F) c oM (Rect.unit (s := S4096x256) (k0_off2 c (BitVec.ofNat 32 st.val)) S512x256.size (k0_off2_inb c st)) (fun _ => rfl) V) $$ Hout; iintro Hout
  iapply (store_slot (F := F) c oM (Rect.unit (s := S4096x256) (k0_off2 c (BitVec.ofNat 32 st.val)) S512x256.size (k0_off2_inb c st)) (fun _ => rfl) (gotV m c st) V) $$ Hout; iintro Hout
  ihave Hout := (Entails.of_eq (slot_off (F := F) c oM (outOff_drain c st) (k0_off2_inb c st) (outOff_inb c st.castSucc) (gotV m c st))) $$ Hout
  iapply (ends_ret (F := F) c)
  iapply Hk
  isplitl [Ho]; · iexact Ho
  isplitl [Hp1 Hp3]
  · isplitl [Hp1]
    · iexists _; iexact Hp1
    · iexists _; iexact Hp3
  isplitl [Hz1 Hz3]
  · isplitl [Hz1] <;> iassumption
  iexact Hout

/-- The last stage: the device's own block written. -/
theorem own_step {Q : PUnit → sProp 𝕄} :
    iprop(World m K ∗ Ow c (owedSends c 7) ∗ Holds c cc0_scratch0 (xbV m c) ∗ Col1 c 7 ∗ ∃ V, OutSlot c 7 V)
      ⊢ iprop(((Ow c (owedSends c 7) ∗ Holds c cc0_scratch0 (xbV m c) ∗ Col2 m c 7 ∗ OutSlot c 7 (ownV m c)) -∗ Q ⟨⟩)
        -∗ Ends c (ownStage c (scl m c)) Q) := by
  unfold ownStage
  simp only [Prog.lift, Prog.bind_op, Prog.bind_ret]
  iintro ⟨#HW, Ho, Hb, Hcol, ⟨%V, Hout⟩⟩ Hk
  iapply (ends_bind (F := F) c)
  iapply (read_step m K c 7 7) $$ [Ho Hb Hcol]
  · isplitr; · iexact HW
    isplitl [Ho]; · iexact Ho
    isplitl [Hb] <;> iassumption
  iintro ⟨Ho, Hb, Hcol⟩
  ihave Hout := (Entails.of_eq (slot_off (F := F) c oM (outOff_own c).symm (outOff_inb c 7) (k0_off3_inb c) V)) $$ Hout
  iapply (load_slot (F := F) c oM (Rect.unit (s := S4096x256) (k0_off3 c) S512x256.size (k0_off3_inb c)) (fun _ => rfl) V) $$ Hout; iintro Hout
  iapply (store_slot (F := F) c oM (Rect.unit (s := S4096x256) (k0_off3 c) S512x256.size (k0_off3_inb c)) (fun _ => rfl) (ownV m c) V) $$ Hout; iintro Hout
  ihave Hout := (Entails.of_eq (slot_off (F := F) c oM (outOff_own c) (k0_off3_inb c) (outOff_inb c 7) (ownV m c))) $$ Hout
  iapply (ends_ret (F := F) c)
  iapply Hk
  isplitl [Ho]; · iexact Ho
  isplitl [Hb]; · iexact Hb
  isplitl [Hcol]; · iexact Hcol
  iexact Hout

end Cert.KernelIdeal.Exchange

end
-- ==== Proof.Body.lean ====
/- The body, stage after stage. -/
module

public import proofs.«01_k».proof.Proof.Steps

@[expose] public section

noncomputable section

namespace Cert.KernelIdeal.Exchange

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Own → ℕ) (c : Dev nD)

omit [FloatOps F] in
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The meeting and the scales -/

/-- One of the two scales read. -/
theorem scale_step {α : Type} (b : Ref sig .tc) (M : Memref sig .tc .smem S1 .f32) (hM : M.view.loc (c : Thread nD τ) = (c : Thread nD τ).loc b) {h1 h2}
    (X : Buf (Elt F) (M.view.loc (c : Thread nD τ))) {k : Elt F .f32 → Prg F α} {Q : α → sProp 𝕄} :
    (M.view.loc (c : Thread nD τ) ↦{fullShare} X)
      ⊢ iprop(((M.view.loc (c : Thread nD τ) ↦{fullShare} X) -∗ Ends c (k ((M.access r1).read (Elt F) X first1)) Q)
        -∗ Ends c (smemLoad M r1 h1 h2 >>= k) Q) := by
  iintro H Hk
  iapply (ends_bind (F := F) c)
  unfold smemLoad
  iapply (wp_smemLoadElt 𝒱₀ (c : Thread nD τ) none Set.univ (m := M) (r := r1) (Finset.subset_univ _)) $$ H
  iintro H
  iapply (ends_ret (F := F) c)
  iapply Hk
  iexact H

/-- One device's turn among the signals, its number written out. -/
theorem sig_at {α : Type} (p : Fin 8) (n n' : ℕ) (hn : p.val = n) (hn' : n' = n + 1) {k : Prg F α} {Q : α → sProp 𝕄} :
    iprop(World m K ∗ Ow c (owedAll c n) ∗ bigSep (later c n) (Opening c))
      ⊢ iprop(((Ow c (owedAll c n') ∗ bigSep (later c n') (Opening c)) -∗ Ends c k Q) -∗ Ends c (sigThen c p k) Q) := by
  subst hn hn'
  exact sig_step m K c p

/-- The signals, the wait and the first scale. -/
theorem meet_step {Q : (Σ' (_ : Dev nD) (_ : BitVec 32), Elt F .f32) → sProp 𝕄} :
    iprop(World m K ∗ Ow c (owedAll c 0) ∗ bigSep Finset.univ (Opening (F := F) c) ∗ (cred (tallyAt (barCell c) () 7) ∗ atPos ER (barCell c) 0 ∅ 0)
        ∗ Holds c cc0_stg1_0 (sxIn m c))
      ⊢ iprop(((Ow c (owedSends c 0) ∗ semVal (barCell c) 0 ∗ bigSep Finset.univ (barPay c) ∗ Holds c cc0_stg1_0 (sxIn m c))
          -∗ Q ⟨c, Scalar.remsi (Scalar.divsi (Dev.word c) 1#32) 8#32, (sxM.access r1).read (Elt F) (sxIn m c) first1⟩)
        -∗ Ends c (meetStage c) Q) := by
  unfold meetStage
  rw [← later_zero c]
  iintro ⟨#HW, Ho, Hop, ⟨Hc, Hat⟩, Hx⟩ Hk
  iapply (sig_at m K c 0 0 1 rfl rfl) $$ [Ho Hop]
  · isplitr; · iexact HW
    isplitl [Ho] <;> iassumption
  iintro ⟨Ho, Hop⟩
  iapply (sig_at m K c 1 1 2 rfl rfl) $$ [Ho Hop]
  · isplitr; · iexact HW
    isplitl [Ho] <;> iassumption
  iintro ⟨Ho, Hop⟩
  iapply (sig_at m K c 2 2 3 rfl rfl) $$ [Ho Hop]
  · isplitr; · iexact HW
    isplitl [Ho] <;> iassumption
  iintro ⟨Ho, Hop⟩
  iapply (sig_at m K c 3 3 4 rfl rfl) $$ [Ho Hop]
  · isplitr; · iexact HW
    isplitl [Ho] <;> iassumption
  iintro ⟨Ho, Hop⟩
  iapply (sig_at m K c 4 4 5 rfl rfl) $$ [Ho Hop]
  · isplitr; · iexact HW
    isplitl [Ho] <;> iassumption
  iintro ⟨Ho, Hop⟩
  iapply (sig_at m K c 5 5 6 rfl rfl) $$ [Ho Hop]
  · isplitr; · iexact HW
    isplitl [Ho] <;> iassumption
  iintro ⟨Ho, Hop⟩
  iapply (sig_at m K c 6 6 7 rfl rfl) $$ [Ho Hop]
  · isplitr; · iexact HW
    isplitl [Ho] <;> iassumption
  iintro ⟨Ho, Hop⟩
  iapply (sig_at m K c 7 7 8 rfl rfl) $$ [Ho Hop]
  · isplitr; · iexact HW
    isplitl [Ho] <;> iassumption
  iintro ⟨Ho, Hop⟩
  ihave Ho := (Entails.of_eq (congrArg (Ow (F := F) c) (owedAll_end c))) $$ Ho
  iapply (meet_wait m K c) $$ [Ho Hc Hat]
  · isplitr; · iexact HW
    isplitl [Hc]; · iexact Hc
    isplitl [Ho] <;> iassumption
  iintro ⟨Ho, Hz, Hp⟩
  iapply (scale_step (F := F) c cc0_stg1_0 sxM rfl (sxIn m c)) $$ Hx
  iintro Hx
  iapply (ends_ret (F := F) c)
  iapply Hk
  isplitl [Ho]; · iexact Ho
  isplitl [Hz]; · iexact Hz
  isplitl [Hp]; · iexact Hp
  iexact Hx

/-! ## The work -/

/-- A working stage, its number written out. -/
theorem work_at (st : Fin 7) (n n' : ℕ) (hn : st.val = n) (hn' : n' = n + 1) {Q : PUnit → sProp 𝕄} :
    iprop(World m K ∗ Ow c (owedSends c n) ∗ Holds c cc0_scratch0 (xbV m c) ∗ Col1 c st.castSucc ∗ Send0 c st ∗ barPay c st)
      ⊢ iprop(((Ow c (owedSends c n') ∗ Holds c cc0_scratch0 (xbV m c) ∗ Col2 m c st.castSucc ∗ Send1 c st) -∗ Q ⟨⟩)
        -∗ Ends c (workStage c (scl m c) st) Q) := by
  subst hn hn'
  exact work_step m K c st

/-- What the working stages take, -/
def Work0 : sProp 𝕄 :=
  iprop(Holds c cc0_stg0_0 (xIn m c) ∗ (∃ f, Holds c cc0_scratch0 f) ∗ bigSep Finset.univ (Col0 m c) ∗ bigSep Finset.univ (Send0 (F := F) c)
    ∗ bigSep Finset.univ (barPay (F := F) c) ∗ bigSep Finset.univ (Recv0 (F := F) c) ∗ ∃ V, OutSlot (F := F) c 7 V)
/-- and what they leave. -/
def Work1 : sProp 𝕄 :=
  iprop(Holds c cc0_stg0_0 (xIn m c) ∗ Holds c cc0_scratch0 (xbV m c) ∗ bigSep Finset.univ (Col2 m c) ∗ bigSep Finset.univ (Send2 (F := F) c)
    ∗ bigSep Finset.univ (Recv1 m c) ∗ OutSlot c 7 (ownV m c))

set_option maxHeartbeats 1600000 in
/-- The working stages. -/
theorem works_step {Q : PUnit → sProp 𝕄} :
    iprop(World m K ∗ Ow c (owedSends c 0) ∗ Work0 m c)
      ⊢ iprop(((Ow c (owedSends c 7) ∗ Work1 m c) -∗ Q ⟨⟩) -∗ Ends c (workStages c (scl m c)) Q) := by
  unfold workStages Work0 Work1
  simp only [seven, eight]
  iintro ⟨#HW, Ho, Hx, Hb, ⟨Hw0, Hw1, Hw2, Hw3, Hw4, Hw5, Hw6, Hw7⟩, ⟨Hs0, Hs1, Hs2, Hs3, Hs4, Hs5, Hs6⟩, ⟨Hp0, Hp1, Hp2, Hp3, Hp4, Hp5, Hp6⟩, ⟨Hr0, Hr1, Hr2, Hr3, Hr4, Hr5, Hr6⟩, Hown⟩ Hk
  iapply (ends_bind (F := F) c)
  iapply (copy_step m K c 0) $$ [Hw0]
  · isplitr; · iexact HW
    iexact Hw0
  iintro Hw0
  iapply (ends_bind (F := F) c)
  iapply (copy_step m K c 1) $$ [Hw1]
  · isplitr; · iexact HW
    iexact Hw1
  iintro Hw1
  iapply (ends_bind (F := F) c)
  iapply (copy_step m K c 2) $$ [Hw2]
  · isplitr; · iexact HW
    iexact Hw2
  iintro Hw2
  iapply (ends_bind (F := F) c)
  iapply (copy_step m K c 3) $$ [Hw3]
  · isplitr; · iexact HW
    iexact Hw3
  iintro Hw3
  iapply (ends_bind (F := F) c)
  iapply (copy_step m K c 4) $$ [Hw4]
  · isplitr; · iexact HW
    iexact Hw4
  iintro Hw4
  iapply (ends_bind (F := F) c)
  iapply (copy_step m K c 5) $$ [Hw5]
  · isplitr; · iexact HW
    iexact Hw5
  iintro Hw5
  iapply (ends_bind (F := F) c)
  iapply (copy_step m K c 6) $$ [Hw6]
  · isplitr; · iexact HW
    iexact Hw6
  iintro Hw6
  iapply (ends_bind (F := F) c)
  iapply (copy_step m K c 7) $$ [Hw7]
  · isplitr; · iexact HW
    iexact Hw7
  iintro Hw7
  iapply (ends_bind (F := F) c)
  iapply (xb_step m c) $$ [Hx Hb]
  · isplitl [Hx] <;> iassumption
  iintro ⟨Hx, Hb⟩
  iapply (ends_bind (F := F) c)
  iapply (work_at m K c 0 0 1 rfl rfl) $$ [Ho Hb Hw0 Hs0 Hp0]
  · isplitr; · iexact HW
    isplitl [Ho]; · iexact Ho
    isplitl [Hb]; · iexact Hb
    isplitl [Hw0]; · iexact Hw0
    isplitl [Hs0] <;> iassumption
  iintro ⟨Ho, Hb, Hw0, Hs0⟩
  iapply (ends_bind (F := F) c)
  iapply (work_at m K c 1 1 2 rfl rfl) $$ [Ho Hb Hw1 Hs1 Hp1]
  · isplitr; · iexact HW
    isplitl [Ho]; · iexact Ho
    isplitl [Hb]; · iexact Hb
    isplitl [Hw1]; · iexact Hw1
    isplitl [Hs1] <;> iassumption
  iintro ⟨Ho, Hb, Hw1, Hs1⟩
  iapply (ends_bind (F := F) c)
  iapply (work_at m K c 2 2 3 rfl rfl) $$ [Ho Hb Hw2 Hs2 Hp2]
  · isplitr; · iexact HW
    isplitl [Ho]; · iexact Ho
    isplitl [Hb]; · iexact Hb
    isplitl [Hw2]; · iexact Hw2
    isplitl [Hs2] <;> iassumption
  iintro ⟨Ho, Hb, Hw2, Hs2⟩
  iapply (ends_bind (F := F) c)
  iapply (drain_step m K c 0 3 (by decide)) $$ [Ho Hr0]
  · isplitr; · iexact HW
    isplitl [Ho] <;> iassumption
  iintro ⟨Ho, Hr0⟩
  iapply (ends_bind (F := F) c)
  iapply (work_at m K c 3 3 4 rfl rfl) $$ [Ho Hb Hw3 Hs3 Hp3]
  · isplitr; · iexact HW
    isplitl [Ho]; · iexact Ho
    isplitl [Hb]; · iexact Hb
    isplitl [Hw3]; · iexact Hw3
    isplitl [Hs3] <;> iassumption
  iintro ⟨Ho, Hb, Hw3, Hs3⟩
  iapply (ends_bind (F := F) c)
  iapply (drain_step m K c 1 4 (by decide)) $$ [Ho Hr1]
  · isplitr; · iexact HW
    isplitl [Ho] <;> iassumption
  iintro ⟨Ho, Hr1⟩
  iapply (ends_bind (F := F) c)
  iapply (work_at m K c 4 4 5 rfl rfl) $$ [Ho Hb Hw4 Hs4 Hp4]
  · isplitr; · iexact HW
    isplitl [Ho]; · iexact Ho
    isplitl [Hb]; · iexact Hb
    isplitl [Hw4]; · iexact Hw4
    isplitl [Hs4] <;> iassumption
  iintro ⟨Ho, Hb, Hw4, Hs4⟩
  iapply (ends_bind (F := F) c)
  iapply (drain_step m K c 2 5 (by decide)) $$ [Ho Hr2]
  · isplitr; · iexact HW
    isplitl [Ho] <;> iassumption
  iintro ⟨Ho, Hr2⟩
  iapply (ends_bind (F := F) c)
  iapply (work_at m K c 5 5 6 rfl rfl) $$ [Ho Hb Hw5 Hs5 Hp5]
  · isplitr; · iexact HW
    isplitl [Ho]; · iexact Ho
    isplitl [Hb]; · iexact Hb
    isplitl [Hw5]; · iexact Hw5
    isplitl [Hs5] <;> iassumption
  iintro ⟨Ho, Hb, Hw5, Hs5⟩
  iapply (ends_bind (F := F) c)
  iapply (drain_step m K c 3 6 (by decide)) $$ [Ho Hr3]
  · isplitr; · iexact HW
    isplitl [Ho] <;> iassumption
  iintro ⟨Ho, Hr3⟩
  iapply (ends_bind (F := F) c)
  iapply (work_at m K c 6 6 7 rfl rfl) $$ [Ho Hb Hw6 Hs6 Hp6]
  · isplitr; · iexact HW
    isplitl [Ho]; · iexact Ho
    isplitl [Hb]; · iexact Hb
    isplitl [Hw6]; · iexact Hw6
    isplitl [Hs6] <;> iassumption
  iintro ⟨Ho, Hb, Hw6, Hs6⟩
  iapply (ends_bind (F := F) c)
  iapply (drain_step m K c 4 7 (by decide)) $$ [Ho Hr4]
  · isplitr; · iexact HW
    isplitl [Ho] <;> iassumption
  iintro ⟨Ho, Hr4⟩
  iapply (ends_bind (F := F) c)
  iapply (own_step m K c) $$ [Ho Hb Hw7 Hown]
  · isplitr; · iexact HW
    isplitl [Ho]; · iexact Ho
    isplitl [Hb]; · iexact Hb
    isplitl [Hw7] <;> iassumption
  iintro ⟨Ho, Hb, Hw7, Hown⟩
  iapply (ends_bind (F := F) c)
  iapply (drain_step m K c 5 7 (by decide)) $$ [Ho Hr5]
  · isplitr; · iexact HW
    isplitl [Ho] <;> iassumption
  iintro ⟨Ho, Hr5⟩
  iapply (ends_bind (F := F) c)
  iapply (drain_step m K c 6 7 (by decide)) $$ [Ho Hr6]
  · isplitr; · iexact HW
    isplitl [Ho] <;> iassumption
  iintro ⟨Ho, Hr6⟩
  iapply (ends_bind (F := F) c)
  iapply (left_step m K c 0) $$ [Ho Hs0]
  · isplitr; · iexact HW
    isplitl [Ho] <;> iassumption
  iintro ⟨Ho, Hs0⟩
  iapply (ends_bind (F := F) c)
  iapply (left_step m K c 1) $$ [Ho Hs1]
  · isplitr; · iexact HW
    isplitl [Ho] <;> iassumption
  iintro ⟨Ho, Hs1⟩
  iapply (ends_bind (F := F) c)
  iapply (left_step m K c 2) $$ [Ho Hs2]
  · isplitr; · iexact HW
    isplitl [Ho] <;> iassumption
  iintro ⟨Ho, Hs2⟩
  iapply (ends_bind (F := F) c)
  iapply (left_step m K c 3) $$ [Ho Hs3]
  · isplitr; · iexact HW
    isplitl [Ho] <;> iassumption
  iintro ⟨Ho, Hs3⟩
  iapply (ends_bind (F := F) c)
  iapply (left_step m K c 4) $$ [Ho Hs4]
  · isplitr; · iexact HW
    isplitl [Ho] <;> iassumption
  iintro ⟨Ho, Hs4⟩
  iapply (ends_bind (F := F) c)
  iapply (left_step m K c 5) $$ [Ho Hs5]
  · isplitr; · iexact HW
    isplitl [Ho] <;> iassumption
  iintro ⟨Ho, Hs5⟩
  iapply (left_step m K c 6) $$ [Ho Hs6]
  · isplitr; · iexact HW
    isplitl [Ho] <;> iassumption
  iintro ⟨Ho, Hs6⟩
  iapply Hk
  isplitl [Ho]; · iexact Ho
  isplitl [Hx]; · iexact Hx
  isplitl [Hb]; · iexact Hb
  isplitl [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  isplitl [Hs0 Hs1 Hs2 Hs3 Hs4 Hs5 Hs6]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  isplitl [Hr0 Hr1 Hr2 Hr3 Hr4 Hr5 Hr6]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  iexact Hown

/-- The whole body, from the slots to the slots. -/
theorem stages_step {Q : PUnit → sProp 𝕄} :
    iprop(World m K ∗ Ow c (owedAll c 0) ∗ bigSep Finset.univ (Opening (F := F) c) ∗ (cred (tallyAt (barCell c) () 7) ∗ atPos ER (barCell c) 0 ∅ 0)
        ∗ (Holds c cc0_stg1_0 (sxIn m c) ∗ Holds c cc0_stg2_0 (swIn m c))
        ∗ Holds c cc0_stg0_0 (xIn m c) ∗ (∃ f, Holds c cc0_scratch0 f) ∗ bigSep Finset.univ (Col0 m c) ∗ bigSep Finset.univ (Send0 (F := F) c)
        ∗ bigSep Finset.univ (Recv0 (F := F) c) ∗ ∃ V, OutSlot (F := F) c 7 V)
      ⊢ iprop(((Ow c (owedSends c 7) ∗ semVal (barCell c) 0 ∗ (Holds c cc0_stg1_0 (sxIn m c) ∗ Holds c cc0_stg2_0 (swIn m c)) ∗ Work1 m c) -∗ Q ⟨⟩)
        -∗ Ends c stages Q) := by
  unfold stages
  simp only [Prog.lift, Prog.bind_op, Prog.bind_ret, wp_deviceId]
  iintro ⟨#HW, Ho, Hop, Hbar, ⟨Hsx, Hsw⟩, Hx, Hb, Hw, Hs, Hr, Hown⟩ Hk
  iapply (ends_bind (F := F) c)
  iapply (meet_step m K c) $$ [Ho Hop Hbar Hsx]
  · isplitr; · iexact HW
    isplitl [Ho]; · iexact Ho
    isplitl [Hop]; · iexact Hop
    isplitl [Hbar] <;> iassumption
  iintro ⟨Ho, Hz, Hp, Hsx⟩
  iapply (ends_bind (F := F) c)
  unfold scaleStage
  iapply (scale_step (F := F) c cc0_stg2_0 swM rfl (swIn m c)) $$ Hsw
  iintro Hsw
  iapply (ends_ret (F := F) c)
  iapply (works_step m K c) $$ [Ho Hx Hb Hw Hs Hp Hr Hown]
  · isplitr; · iexact HW
    isplitl [Ho]; · iexact Ho
    unfold Work0
    isplitl [Hx]; · iexact Hx
    isplitl [Hb]; · iexact Hb
    isplitl [Hw]; · iexact Hw
    isplitl [Hs]; · iexact Hs
    isplitl [Hp]; · iexact Hp
    isplitl [Hr] <;> iassumption
  iintro ⟨Ho, Hwk⟩
  iapply Hk
  isplitl [Ho]; · iexact Ho
  isplitl [Hz]; · iexact Hz
  isplitl [Hsx Hsw]
  · isplitl [Hsx]; · iexact Hsx
    iexact Hsw
  iexact Hwk

end Cert.KernelIdeal.Exchange

end
-- ==== Proof.Buffers.lean ====
/- The buffers, whole and in slots. -/
module

public import proofs.«01_k».proof.Proof.Body

@[expose] public section

noncomputable section

namespace Cert.KernelIdeal.Exchange

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- A buffer held whole is its memref held. -/
theorem holds_owns (b : Ref sig .tc) (X : b.ty.Contents (Elt F)) :
    (Holds c b X : sProp 𝕄) = owns (Ix := Unit) (Name := ℕ) (U := UU) (Lvl := ℕ) (c : Thread nD τ) (Memref.whole b) fullShare X :=
  (owns_whole (c : Thread nD τ) b fullShare X).symm

/-! ## The scratch buffers -/

theorem rW_disjoint (t t' : Fin 8) (h : t ≠ t') : Disjoint (rW t).set (rW t').set :=
  slab_disjoint (s := S8x4096x256) (fun t : Fin 8 => ![t.val, 0, 0]) S1x4096x256.size inbW 0 (fun t => t.val) Fin.val_injective (fun t => (Nat.one_mul _).symm) t t' h
theorem rW_cover : (Finset.univ : Finset (Fin 8)).biUnion (fun t => (rW t).set) = Finset.univ :=
  slab_cover (s := S8x4096x256) (fun t : Fin 8 => ![t.val, 0, 0]) S1x4096x256.size inbW 0 (fun t => t.val) (fun t => (Nat.one_mul _).symm) Nat.one_pos
    (fun t b hb => by fin_cases b; exact absurd rfl hb; exact ⟨rfl, rfl⟩; exact ⟨rfl, rfl⟩)
    (fun k hk => ⟨⟨k, (Nat.mul_one k).symm.trans_lt hk⟩, rfl⟩)
theorem rC_disjoint (t t' : Fin 7) (h : t ≠ t') : Disjoint (rC t).set (rC t').set :=
  slab_disjoint (s := S7x512x256) (fun t : Fin 7 => ![t.val, 0, 0]) S1x512x256.size inbC 0 (fun t => t.val) Fin.val_injective (fun t => (Nat.one_mul _).symm) t t' h
theorem rC_cover : (Finset.univ : Finset (Fin 7)).biUnion (fun t => (rC t).set) = Finset.univ :=
  slab_cover (s := S7x512x256) (fun t : Fin 7 => ![t.val, 0, 0]) S1x512x256.size inbC 0 (fun t => t.val) (fun t => (Nat.one_mul _).symm) Nat.one_pos
    (fun t b hb => by fin_cases b; exact absurd rfl hb; exact ⟨rfl, rfl⟩; exact ⟨rfl, rfl⟩)
    (fun k hk => ⟨⟨k, (Nat.mul_one k).symm.trans_lt hk⟩, rfl⟩)
theorem rS_disjoint (t t' : Fin 7) (h : t ≠ t') : Disjoint (rS t).set (rS t').set :=
  slab_disjoint (s := S7x1x256) (fun t : Fin 7 => ![t.val, 0, 0]) S1x1x256.size inbS 0 (fun t => t.val) Fin.val_injective (fun t => (Nat.one_mul _).symm) t t' h
theorem rS_cover : (Finset.univ : Finset (Fin 7)).biUnion (fun t => (rS t).set) = Finset.univ :=
  slab_cover (s := S7x1x256) (fun t : Fin 7 => ![t.val, 0, 0]) S1x1x256.size inbS 0 (fun t => t.val) (fun t => (Nat.one_mul _).symm) Nat.one_pos
    (fun t b hb => by fin_cases b; exact absurd rfl hb; exact ⟨rfl, rfl⟩; exact ⟨rfl, rfl⟩)
    (fun k hk => ⟨⟨k, (Nat.mul_one k).symm.trans_lt hk⟩, rfl⟩)

/-- A scratch buffer at some contents is its slots at some contents, and back. -/
theorem scratch_split {T : Type} [Fintype T] [DecidableEq T] (b : Ref sig .tc) {size : Fin b.ty.shape.rank → Nat}
    (off : T → Fin b.ty.shape.rank → Nat) (inb : ∀ t a, off t a + size a ≤ b.ty.shape.size a)
    (hd : ∀ t t', t ≠ t' → Disjoint (Rect.unit (off t) size (inb t)).set (Rect.unit (off t') size (inb t')).set)
    (hcov : (Finset.univ : Finset T).biUnion (fun t => (Rect.unit (off t) size (inb t)).set) = Finset.univ) :
    iprop(∃ f, Holds c b f) ⊢ (bigSep Finset.univ fun t => iprop(∃ V, Slot c (Memref.whole b) (Rect.unit (off t) size (inb t)) (fun _ => rfl) V) : sProp 𝕄) := by
  iintro ⟨%f, H⟩
  iapply (pile_split_any (F := F) c (Memref.whole b) off size inb hd hcov f)
  iapply (Entails.of_eq (holds_owns (F := F) c b f))
  iexact H
theorem scratch_join {T : Type} [Fintype T] [DecidableEq T] (b : Ref sig .tc) {size : Fin b.ty.shape.rank → Nat}
    (off : T → Fin b.ty.shape.rank → Nat) (inb : ∀ t a, off t a + size a ≤ b.ty.shape.size a)
    (hd : ∀ t t', t ≠ t' → Disjoint (Rect.unit (off t) size (inb t)).set (Rect.unit (off t') size (inb t')).set)
    (hcov : (Finset.univ : Finset T).biUnion (fun t => (Rect.unit (off t) size (inb t)).set) = Finset.univ) :
    (bigSep Finset.univ fun t => iprop(∃ V, Slot c (Memref.whole b) (Rect.unit (off t) size (inb t)) (fun _ => rfl) V) : sProp 𝕄) ⊢ iprop(∃ f, Holds c b f) := by
  iintro H
  ihave H := (pile_join_any (F := F) c (Memref.whole b) off size inb hd hcov) $$ H
  icases H with ⟨%f, H⟩
  iexists f
  iapply (Entails.of_eq (holds_owns (F := F) c b f).symm)
  iexact H

theorem wv_split : iprop(∃ f, Holds c cc0_scratch1 f) ⊢ (bigSep Finset.univ fun t => iprop(∃ V, WvSlot c t V) : sProp 𝕄) :=
  scratch_split c cc0_scratch1 (fun t : Fin 8 => ![t.val, 0, 0]) inbW rW_disjoint rW_cover
theorem wv_join : (bigSep Finset.univ fun t => iprop(∃ V, WvSlot c t V) : sProp 𝕄) ⊢ iprop(∃ f, Holds c cc0_scratch1 f) :=
  scratch_join c cc0_scratch1 (fun t : Fin 8 => ![t.val, 0, 0]) inbW rW_disjoint rW_cover
theorem send_split : iprop(∃ f, Holds c cc0_scratch2 f) ⊢ (bigSep Finset.univ fun t => iprop(∃ V, SendSlot c t V) : sProp 𝕄) :=
  scratch_split c cc0_scratch2 (fun t : Fin 7 => ![t.val, 0, 0]) inbC rC_disjoint rC_cover
theorem send_join : (bigSep Finset.univ fun t => iprop(∃ V, SendSlot c t V) : sProp 𝕄) ⊢ iprop(∃ f, Holds c cc0_scratch2 f) :=
  scratch_join c cc0_scratch2 (fun t : Fin 7 => ![t.val, 0, 0]) inbC rC_disjoint rC_cover
theorem comm_split : iprop(∃ f, Holds c cc0_scratch3 f) ⊢ (bigSep Finset.univ fun t => iprop(∃ V, CommSlot c t V) : sProp 𝕄) :=
  scratch_split c cc0_scratch3 (fun t : Fin 7 => ![t.val, 0, 0]) inbC rC_disjoint rC_cover
theorem comm_join : (bigSep Finset.univ fun t => iprop(∃ V, CommSlot c t V) : sProp 𝕄) ⊢ iprop(∃ f, Holds c cc0_scratch3 f) :=
  scratch_join c cc0_scratch3 (fun t : Fin 7 => ![t.val, 0, 0]) inbC rC_disjoint rC_cover
theorem ssc_split : iprop(∃ f, Holds c cc0_scratch4 f) ⊢ (bigSep Finset.univ fun t => iprop(∃ V, SscSlot c t V) : sProp 𝕄) :=
  scratch_split c cc0_scratch4 (fun t : Fin 7 => ![t.val, 0, 0]) inbS rS_disjoint rS_cover
theorem ssc_join : (bigSep Finset.univ fun t => iprop(∃ V, SscSlot c t V) : sProp 𝕄) ⊢ iprop(∃ f, Holds c cc0_scratch4 f) :=
  scratch_join c cc0_scratch4 (fun t : Fin 7 => ![t.val, 0, 0]) inbS rS_disjoint rS_cover
theorem rsc_split : iprop(∃ f, Holds c cc0_scratch5 f) ⊢ (bigSep Finset.univ fun t => iprop(∃ V, RscSlot c t V) : sProp 𝕄) :=
  scratch_split c cc0_scratch5 (fun t : Fin 7 => ![t.val, 0, 0]) inbS rS_disjoint rS_cover
theorem rsc_join : (bigSep Finset.univ fun t => iprop(∃ V, RscSlot c t V) : sProp 𝕄) ⊢ iprop(∃ f, Holds c cc0_scratch5 f) :=
  scratch_join c cc0_scratch5 (fun t : Fin 7 => ![t.val, 0, 0]) inbS rS_disjoint rS_cover

/-! ## `w` -/

theorem wOff_at (t : Fin 8) : k0_off1 c (BitVec.ofNat 32 t.val) (1 : Fin 2) = 256 * ((c.val + t.val + 1) % 8) := by rw [k0_off1_eq]; rfl
theorem w_disjoint (t t' : Fin 8) (h : t ≠ t') :
    Disjoint (Rect.unit (s := S4096x2048) (k0_off1 c (BitVec.ofNat 32 t.val)) S4096x256.size (k0_off1_inb c t)).set
      (Rect.unit (s := S4096x2048) (k0_off1 c (BitVec.ofNat 32 t'.val)) S4096x256.size (k0_off1_inb c t')).set :=
  slab_disjoint (s := S4096x2048) (fun t : Fin 8 => k0_off1 c (BitVec.ofNat 32 t.val)) S4096x256.size (fun t => k0_off1_inb c t) 1
    (fun t => (c.val + t.val + 1) % 8) (fun a b h => Fin.ext (by have ha := a.isLt; have hb := b.isLt; dsimp only at h; omega)) (wOff_at c) t t' h
theorem w_cover : (Finset.univ : Finset (Fin 8)).biUnion
    (fun t => (Rect.unit (s := S4096x2048) (k0_off1 c (BitVec.ofNat 32 t.val)) S4096x256.size (k0_off1_inb c t)).set) = Finset.univ :=
  slab_cover (s := S4096x2048) (fun t : Fin 8 => k0_off1 c (BitVec.ofNat 32 t.val)) S4096x256.size (fun t => k0_off1_inb c t) 1
    (fun t => (c.val + t.val + 1) % 8) (wOff_at c) (by decide)
    (fun t b hb => by
      fin_cases b
      · exact ⟨by rw [k0_off1_eq]; rfl, rfl⟩
      · exact absurd rfl hb)
    (fun k hk => by
      have hk : k * 256 < 2048 := hk
      have hc : c.val < 8 := c.isLt
      exact ⟨⟨(k + 15 - c.val) % 8, Nat.mod_lt _ (by decide)⟩, by dsimp only; omega⟩)

theorem w_split : (Holds c main_arg1 (wIn m c) : sProp 𝕄) ⊢ bigSep Finset.univ (WPart m c) := by
  rw [holds_owns]
  exact pile_split (F := F) c wM (fun t : Fin 8 => k0_off1 c (BitVec.ofNat 32 t.val)) S4096x256.size (fun t => k0_off1_inb c t) (w_disjoint c) (w_cover c) (wIn m c)
theorem w_join : (bigSep Finset.univ (WPart m c) : sProp 𝕄) ⊢ Holds c main_arg1 (wIn m c) := by
  rw [holds_owns]
  exact pile_join (F := F) c wM (fun t : Fin 8 => k0_off1 c (BitVec.ofNat 32 t.val)) S4096x256.size (fun t => k0_off1_inb c t) (w_disjoint c) (w_cover c) (wIn m c)

/-! ## The result -/

theorem outOff_at (t : Fin 8) : outOff c t (0 : Fin 2) = 512 * ((c.val + 7 - t.val) % 8) := rfl
theorem out_disjoint (t t' : Fin 8) (h : t ≠ t') :
    Disjoint (Rect.unit (s := S4096x256) (outOff c t) S512x256.size (outOff_inb c t)).set (Rect.unit (s := S4096x256) (outOff c t') S512x256.size (outOff_inb c t')).set :=
  slab_disjoint (s := S4096x256) (outOff c) S512x256.size (outOff_inb c) 0
    (fun t => (c.val + 7 - t.val) % 8) (fun a b h => Fin.ext (by have ha := a.isLt; have hb := b.isLt; dsimp only at h; omega)) (outOff_at c) t t' h
theorem out_cover : (Finset.univ : Finset (Fin 8)).biUnion (fun t => (Rect.unit (s := S4096x256) (outOff c t) S512x256.size (outOff_inb c t)).set) = Finset.univ :=
  slab_cover (s := S4096x256) (outOff c) S512x256.size (outOff_inb c) 0 (fun t => (c.val + 7 - t.val) % 8) (outOff_at c) (by decide)
    (fun t b hb => by
      fin_cases b
      · exact absurd rfl hb
      · exact ⟨rfl, rfl⟩)
    (fun k hk => by
      have hk : k * 512 < 4096 := hk
      have hc : c.val < 8 := c.isLt
      exact ⟨⟨(c.val + 15 - k) % 8, Nat.mod_lt _ (by decide)⟩, by dsimp only; omega⟩)

/-- What stage `t` writes to the result: a received block, the device's own at the last. -/
def outPart (t : Fin 8) : Vec F S512x256 .f32 := if h : t.val < 7 then gotV m c ⟨t.val, h⟩ else ownV m c
/-- The stage that writes row block `b`. -/
def stageOf (b : ℕ) : Fin 8 := ⟨(c.val + 15 - b) % 8, Nat.mod_lt _ (by decide)⟩
/-- A place of the result within its row block. -/
def inBlk (i : S4096x256.Idx) : S512x256.Idx := fun a => match a with
  | ⟨0, _⟩ => ⟨(i (0 : Fin 2)).val % 512, Nat.mod_lt _ (by decide)⟩
  | ⟨1, _⟩ => ⟨(i (1 : Fin 2)).val, (i (1 : Fin 2)).isLt⟩
/-- The device's columns of the result. -/
def outAt : (cc0_stg3_0 : Ref sig .tc).ty.Contents (Elt F) := fun i => outPart m c (stageOf c ((i (0 : Fin 2)).val / 512)) (inBlk i)

theorem outAt_emb (t : Fin 8) (j : S512x256.Idx) :
    outAt m c ((Rect.unit (s := S4096x256) (outOff c t) S512x256.size (outOff_inb c t)).emb j) = outPart m c t j := by
  have h0 : (((Rect.unit (s := S4096x256) (outOff c t) S512x256.size (outOff_inb c t)).emb j) (0 : Fin 2)).val = 512 * ((c.val + 7 - t.val) % 8) + (j (0 : Fin 2)).val := by
    show outOff c t 0 + 1 * (j (0 : Fin 2)).val = _
    rw [Nat.one_mul]; rfl
  have h1 : (((Rect.unit (s := S4096x256) (outOff c t) S512x256.size (outOff_inb c t)).emb j) (1 : Fin 2)).val = (j (1 : Fin 2)).val := by
    show 0 + 1 * (j (1 : Fin 2)).val = _
    omega
  have hj : (j (0 : Fin 2)).val < 512 := (j (0 : Fin 2)).isLt
  have ht := t.isLt
  have hc : c.val < 8 := c.isLt
  have hs : stageOf c ((((Rect.unit (s := S4096x256) (outOff c t) S512x256.size (outOff_inb c t)).emb j) (0 : Fin 2)).val / 512) = t := by
    refine Fin.ext ?_
    unfold stageOf
    rw [h0]
    dsimp only
    omega
  have hi : inBlk ((Rect.unit (s := S4096x256) (outOff c t) S512x256.size (outOff_inb c t)).emb j) = j := by
    funext a
    refine Fin.ext ?_
    fin_cases a
    · show (((Rect.unit (s := S4096x256) (outOff c t) S512x256.size (outOff_inb c t)).emb j) (0 : Fin 2)).val % 512 = (j (0 : Fin 2)).val
      rw [h0]; omega
    · exact h1
  unfold outAt
  rw [hs, hi]

theorem out_split (X : (cc0_stg3_0 : Ref sig .tc).ty.Contents (Elt F)) :
    (Holds c cc0_stg3_0 X : sProp 𝕄) ⊢ bigSep Finset.univ fun t => iprop(∃ V, OutSlot c t V) := by
  rw [holds_owns]
  exact pile_split_any (F := F) c oM (outOff c) S512x256.size (outOff_inb c) (out_disjoint c) (out_cover c) X
theorem out_join : (bigSep Finset.univ fun t => OutSlot c t (outPart m c t) : sProp 𝕄) ⊢ Holds c cc0_stg3_0 (outAt m c) := by
  rw [holds_owns]
  refine BIBase.Entails.trans (pile_mono fun t _ => ?_) (pile_join (F := F) c oM (outOff c) S512x256.size (outOff_inb c) (out_disjoint c) (out_cover c) (outAt m c))
  rw [show (fun j => outAt m c ((Rect.unit (s := S4096x256) (outOff c t) S512x256.size (outOff_inb c t)).emb j)) = outPart m c t from funext fun j => outAt_emb m c t j]

end Cert.KernelIdeal.Exchange

end
-- ==== Proof.Obligation.lean ====
/- What a device starts with and ends with, and its body between them. -/
module

public import proofs.«01_k».proof.Proof.Buffers

@[expose] public section

noncomputable section

namespace Cert.KernelIdeal.Exchange

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What the body starts with and ends with -/

/-- The names of the cells' invariants, the device's turns at its cells, and the duties it is to pay. -/
def ghost (K : Dev nD × Option Own → ℕ) (c : Dev nD) : sProp 𝕄 :=
  iprop(records m K ∗ atPos ER (barCell c) 0 ∅ 0 ∗ (bigSep Finset.univ fun st : Fin 7 => dutyTok ER (barCell (src c st)) 0 st)
    ∗ (bigSep Finset.univ fun t : Fin 8 => dutyTok ER (wCell c t) 0 0) ∗ (bigSep Finset.univ fun t : Fin 8 => atPos ER (wCell c t) 0 ∅ 0)
    ∗ ((bigSep Finset.univ fun st : Fin 7 => dutyTok ER (xCell c 0 st) 0 0) ∗ (bigSep Finset.univ fun st : Fin 7 => dutyTok ER (xCell (dst c st) 1 st) 0 0)
      ∗ (bigSep Finset.univ fun st : Fin 7 => dutyTok ER (xCell c 2 st) 0 0) ∗ (bigSep Finset.univ fun st : Fin 7 => dutyTok ER (xCell (dst c st) 3 st) 0 0))
    ∗ ((bigSep Finset.univ fun st : Fin 7 => atPos ER (xCell c 0 st) 0 ∅ 0) ∗ (bigSep Finset.univ fun st : Fin 7 => atPos ER (xCell c 1 st) 0 ∅ 0)
      ∗ (bigSep Finset.univ fun st : Fin 7 => atPos ER (xCell c 2 st) 0 ∅ 0) ∗ (bigSep Finset.univ fun st : Fin 7 => atPos ER (xCell c 3 st) 0 ∅ 0)))

/-- The units it is to be sent. -/
def credits (c : Dev nD) : sProp 𝕄 :=
  iprop(cred (tallyAt (barCell c) () 7) ∗ (bigSep Finset.univ fun st : Fin 7 => cred (tallyAt (xCell c 1 st) () (NX 1)))
    ∗ (bigSep Finset.univ fun st : Fin 7 => cred (tallyAt (xCell c 3 st) () (NX 3))))

/-- With the order of the waits and `w`, what it starts with, -/
def start (c : Dev nD) : sProp 𝕄 := iprop((∃ K, ghost m K c) ∗ credits c ∗ levAts L lv ∗ Holds c main_arg1 (wIn m c))

/-- the scratch buffers at anything. -/
def scratches (c : Dev nD) : sProp 𝕄 :=
  iprop((∃ f, Holds c cc0_scratch0 f) ∗ (∃ f, Holds c cc0_scratch1 f) ∗ (∃ f, Holds c cc0_scratch2 f)
    ∗ (∃ f, Holds c cc0_scratch3 f) ∗ (∃ f, Holds c cc0_scratch4 f) ∗ (∃ f, Holds c cc0_scratch5 f))

/-- The cells of its own copies, at zero. -/
def cellsZero (c : Dev nD) : sProp 𝕄 :=
  iprop((bigSep Finset.univ fun t : Fin 8 => semVal (wCell c t) 0)
    ∗ ((bigSep Finset.univ fun st : Fin 7 => semVal (xCell c 0 st) 0) ∗ (bigSep Finset.univ fun st : Fin 7 => semVal (xCell c 1 st) 0)
      ∗ (bigSep Finset.univ fun st : Fin 7 => semVal (xCell c 2 st) 0) ∗ (bigSep Finset.univ fun st : Fin 7 => semVal (xCell c 3 st) 0)))

def Φ₀ (c : Dev nD) : sProp 𝕄 := iprop(start m c ∗ scratches c)
/-- It ends with its cells at zero, `w` as it was, and the scratch buffers at anything. -/
def Φ₁ (c : Dev nD) : sProp 𝕄 := iprop((semVal (barCell c) 0 ∗ Holds c main_arg1 (wIn m c)) ∗ cellsZero c ∗ scratches c)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => sxIn m c
    | ⟨2, _⟩ => swIn m c
    | ⟨3, _⟩ => outAt m c
  Φ t := match t with
    | ⟨0, _⟩ => Φ₀ m c
    | ⟨_ + 1, _⟩ => Φ₁ m c
  q _ := fullShare
  owed t := match t with
    | ⟨0, _⟩ => owedAll c 0
    | ⟨_ + 1, _⟩ => 0

variable (K : Dev nD × Option Own → ℕ) (c : Dev nD)

/-! ## The piles, stage by stage -/

theorem opening_intro : iprop((bigSep Finset.univ fun st : Fin 7 => dutyTok ER (barCell (src c st)) 0 st)
      ∗ (∃ f, Holds c cc0_scratch3 f) ∗ (∃ f, Holds c cc0_scratch5 f)) ⊢ (bigSep Finset.univ (Opening (F := F) c) : sProp 𝕄) := by
  show _ ⊢ bigSep Finset.univ fun st : Fin 7 => iprop(dutyTok ER (barCell (src c st)) 0 st ∗ (∃ V, CommSlot c st V) ∗ (∃ V, RscSlot c st V))
  rw [bigSep_sep', bigSep_sep']
  iintro ⟨Ht, Hc, Hr⟩
  isplitl [Ht]; · iexact Ht
  isplitl [Hc]
  · iapply (comm_split (F := F) c); iexact Hc
  iapply (rsc_split (F := F) c); iexact Hr

theorem col_intro : iprop(Holds c main_arg1 (wIn m c) ∗ (∃ f, Holds c cc0_scratch1 f)
      ∗ (bigSep Finset.univ fun t : Fin 8 => dutyTok ER (wCell c t) 0 0) ∗ (bigSep Finset.univ fun t : Fin 8 => atPos ER (wCell c t) 0 ∅ 0))
    ⊢ (bigSep Finset.univ (Col0 m c) : sProp 𝕄) := by
  show _ ⊢ bigSep Finset.univ fun t : Fin 8 => iprop(WPart m c t ∗ (∃ V, WvSlot c t V) ∗ dutyTok ER (wCell c t) 0 0 ∗ atPos ER (wCell c t) 0 ∅ 0)
  rw [bigSep_sep', bigSep_sep', bigSep_sep']
  iintro ⟨Hw, Hv, Ht, Ha⟩
  isplitl [Hw]
  · iapply (w_split m c); iexact Hw
  isplitl [Hv]
  · iapply (wv_split (F := F) c); iexact Hv
  isplitl [Ht] <;> iassumption

theorem col_elim : (bigSep Finset.univ (Col2 m c) : sProp 𝕄)
    ⊢ iprop(Holds c main_arg1 (wIn m c) ∗ (∃ f, Holds c cc0_scratch1 f) ∗ bigSep Finset.univ fun t : Fin 8 => semVal (wCell c t) 0) := by
  show (bigSep Finset.univ fun t : Fin 8 => iprop(WPart m c t ∗ (∃ V, WvSlot c t V) ∗ semVal (wCell c t) 0)) ⊢ _
  rw [bigSep_sep', bigSep_sep']
  iintro ⟨Hw, Hv, Hz⟩
  isplitl [Hw]
  · iapply (w_join m c); iexact Hw
  isplitl [Hv]
  · iapply (wv_join (F := F) c); iexact Hv
  iexact Hz

theorem send_intro : iprop((∃ f, Holds c cc0_scratch2 f) ∗ (∃ f, Holds c cc0_scratch4 f)
      ∗ ((bigSep Finset.univ fun st : Fin 7 => dutyTok ER (xCell c 0 st) 0 0) ∗ (bigSep Finset.univ fun st : Fin 7 => dutyTok ER (xCell c 2 st) 0 0))
      ∗ ((bigSep Finset.univ fun st : Fin 7 => dutyTok ER (xCell (dst c st) 1 st) 0 0) ∗ (bigSep Finset.univ fun st : Fin 7 => dutyTok ER (xCell (dst c st) 3 st) 0 0))
      ∗ (bigSep Finset.univ fun st : Fin 7 => atPos ER (xCell c 0 st) 0 ∅ 0) ∗ (bigSep Finset.univ fun st : Fin 7 => atPos ER (xCell c 2 st) 0 ∅ 0))
    ⊢ (bigSep Finset.univ (Send0 (F := F) c) : sProp 𝕄) := by
  show _ ⊢ bigSep Finset.univ fun st : Fin 7 => iprop((∃ V, SendSlot c st V) ∗ (∃ V, SscSlot c st V)
    ∗ (dutyTok ER (xCell c 0 st) 0 0 ∗ dutyTok ER (xCell c 2 st) 0 0)
    ∗ (dutyTok ER (xCell (dst c st) 1 st) 0 0 ∗ dutyTok ER (xCell (dst c st) 3 st) 0 0)
    ∗ atPos ER (xCell c 0 st) 0 ∅ 0 ∗ atPos ER (xCell c 2 st) 0 ∅ 0)
  simp only [bigSep_sep']
  iintro ⟨Hs, Hc, Ht⟩
  isplitl [Hs]
  · iapply (send_split (F := F) c); iexact Hs
  isplitl [Hc]
  · iapply (ssc_split (F := F) c); iexact Hc
  iexact Ht

theorem send_elim : (bigSep Finset.univ (Send2 (F := F) c) : sProp 𝕄)
    ⊢ iprop((∃ f, Holds c cc0_scratch2 f) ∗ (∃ f, Holds c cc0_scratch4 f)
      ∗ (bigSep Finset.univ fun st : Fin 7 => semVal (xCell c 0 st) 0) ∗ (bigSep Finset.univ fun st : Fin 7 => semVal (xCell c 2 st) 0)) := by
  show (bigSep Finset.univ fun st : Fin 7 => iprop((∃ V, SendSlot c st V) ∗ (∃ V, SscSlot c st V) ∗ semVal (xCell c 0 st) 0 ∗ semVal (xCell c 2 st) 0)) ⊢ _
  simp only [bigSep_sep']
  iintro ⟨Hs, Hc, Ht⟩
  isplitl [Hs]
  · iapply (send_join (F := F) c); iexact Hs
  isplitl [Hc]
  · iapply (ssc_join (F := F) c); iexact Hc
  iexact Ht

/-- Eight things are seven and the last. -/
theorem seven_last (Φ : Fin 8 → sProp 𝕄) : bigSep Finset.univ Φ = iprop((bigSep Finset.univ fun st : Fin 7 => Φ st.castSucc) ∗ Φ 7) := by
  refine both ?_ ?_
  · rw [eight, seven]
    show iprop(Φ 0 ∗ Φ 1 ∗ Φ 2 ∗ Φ 3 ∗ Φ 4 ∗ Φ 5 ∗ Φ 6 ∗ Φ 7) ⊢ iprop((Φ 0 ∗ Φ 1 ∗ Φ 2 ∗ Φ 3 ∗ Φ 4 ∗ Φ 5 ∗ Φ 6) ∗ Φ 7)
    iintro ⟨H0, H1, H2, H3, H4, H5, H6, H7⟩
    isplitr [H7]
    · isplitl [H0]; · iexact H0
      isplitl [H1]; · iexact H1
      isplitl [H2]; · iexact H2
      isplitl [H3]; · iexact H3
      isplitl [H4]; · iexact H4
      isplitl [H5]; · iexact H5
      iexact H6
    iexact H7
  · rw [eight, seven]
    show iprop((Φ 0 ∗ Φ 1 ∗ Φ 2 ∗ Φ 3 ∗ Φ 4 ∗ Φ 5 ∗ Φ 6) ∗ Φ 7) ⊢ iprop(Φ 0 ∗ Φ 1 ∗ Φ 2 ∗ Φ 3 ∗ Φ 4 ∗ Φ 5 ∗ Φ 6 ∗ Φ 7)
    iintro ⟨⟨H0, H1, H2, H3, H4, H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem recv_intro (X : (cc0_stg3_0 : Ref sig .tc).ty.Contents (Elt F)) :
    iprop(((bigSep Finset.univ fun st : Fin 7 => cred (tallyAt (xCell c 1 st) () (NX 1))) ∗ (bigSep Finset.univ fun st : Fin 7 => cred (tallyAt (xCell c 3 st) () (NX 3))))
      ∗ ((bigSep Finset.univ fun st : Fin 7 => atPos ER (xCell c 1 st) 0 ∅ 0) ∗ (bigSep Finset.univ fun st : Fin 7 => atPos ER (xCell c 3 st) 0 ∅ 0))
      ∗ Holds c cc0_stg3_0 X)
    ⊢ (iprop(bigSep Finset.univ (Recv0 (F := F) c) ∗ ∃ V, OutSlot c 7 V) : sProp 𝕄) := by
  show _ ⊢ iprop((bigSep Finset.univ fun st : Fin 7 => iprop((cred (tallyAt (xCell c 1 st) () (NX 1)) ∗ cred (tallyAt (xCell c 3 st) () (NX 3)))
    ∗ (atPos ER (xCell c 1 st) 0 ∅ 0 ∗ atPos ER (xCell c 3 st) 0 ∅ 0) ∗ ∃ V, OutSlot c st.castSucc V)) ∗ ∃ V, OutSlot c 7 V)
  simp only [bigSep_sep']
  iintro ⟨Hc, Ha, Hx⟩
  ihave Hx := ((out_split c X).trans (BIBase.Entails.of_eq (seven_last fun t => iprop(∃ V, OutSlot c t V)))) $$ Hx
  icases Hx with ⟨Hx, Hl⟩
  isplitr [Hl]
  · isplitl [Hc]; · iexact Hc
    isplitl [Ha]; · iexact Ha
    iexact Hx
  iexact Hl

theorem recv_elim : (iprop(bigSep Finset.univ (Recv1 m c) ∗ OutSlot c 7 (ownV m c)) : sProp 𝕄)
    ⊢ iprop((∃ f, Holds c cc0_scratch3 f) ∗ (∃ f, Holds c cc0_scratch5 f)
      ∗ ((bigSep Finset.univ fun st : Fin 7 => semVal (xCell c 1 st) 0) ∗ (bigSep Finset.univ fun st : Fin 7 => semVal (xCell c 3 st) 0))
      ∗ Holds c cc0_stg3_0 (outAt m c)) := by
  show (iprop((bigSep Finset.univ fun st : Fin 7 => iprop(((∃ V, CommSlot c st V) ∗ (∃ V, RscSlot c st V)) ∗ (semVal (xCell c 1 st) 0 ∗ semVal (xCell c 3 st) 0)
    ∗ OutSlot c st.castSucc (gotV m c st))) ∗ OutSlot c 7 (ownV m c))) ⊢ _
  simp only [bigSep_sep']
  iintro ⟨⟨⟨Hc, Hr⟩, Hz, Hx⟩, Hl⟩
  isplitl [Hc]
  · iapply (comm_join (F := F) c); iexact Hc
  isplitl [Hr]
  · iapply (rsc_join (F := F) c); iexact Hr
  isplitl [Hz]; · iexact Hz
  iapply (out_join m c)
  rw [seven_last]
  isplitl [Hx]
  · iapply (pile_mono (S := Finset.univ) fun (st : Fin 7) _ => show OutSlot c st.castSucc (gotV m c st) ⊢ OutSlot c st.castSucc (outPart m c st.castSucc) from
      BIBase.Entails.of_eq (by rw [show outPart m c st.castSucc = gotV m c st from dif_pos st.isLt]))
    iexact Hx
  · rw [show outPart m c 7 = ownV m c from dif_neg (by decide)]
    iexact Hl

/-! ## The body -/

/-- The library's obligation before the body, its windows written out, -/
def bodyPre : sProp 𝕄 :=
  iprop(Φ₀ m c ∗ (dats m 0 c).owesAt () t0_0.castSucc
    ∗ (∃ d, owns (c : Thread nD τ) (Memref.whole cc0_stg0_0) fullShare ((dats m 0 c).before (0 : Fin 4) t0_0 d))
    ∗ (∃ d, owns (c : Thread nD τ) (Memref.whole cc0_stg1_0) fullShare ((dats m 0 c).before (1 : Fin 4) t0_0 d))
    ∗ (∃ d, owns (c : Thread nD τ) (Memref.whole cc0_stg2_0) fullShare ((dats m 0 c).before (2 : Fin 4) t0_0 d))
    ∗ (∃ d, owns (c : Thread nD τ) (Memref.whole cc0_stg3_0) fullShare ((dats m 0 c).before (3 : Fin 4) t0_0 d)))
/-- and after it. -/
def bodyPost : sProp 𝕄 :=
  iprop(Φ₁ m c ∗ (dats m 0 c).owesAt () t0_0.succ
    ∗ owns (c : Thread nD τ) (Memref.whole cc0_stg0_0) fullShare (xIn m c)
    ∗ owns (c : Thread nD τ) (Memref.whole cc0_stg1_0) fullShare (sxIn m c)
    ∗ owns (c : Thread nD τ) (Memref.whole cc0_stg2_0) fullShare (swIn m c)
    ∗ owns (c : Thread nD τ) (Memref.whole cc0_stg3_0) fullShare (outAt m c))

theorem before_0 (d) : (dats m 0 c).before (0 : Fin 4) t0_0 d = xIn m c := by unfold Dat.before; rw [if_pos (fetch0_0 t0_0)]; rfl
theorem before_1 (d) : (dats m 0 c).before (1 : Fin 4) t0_0 d = sxIn m c := by unfold Dat.before; rw [if_pos (fetch0_1 t0_0)]; rfl
theorem before_2 (d) : (dats m 0 c).before (2 : Fin 4) t0_0 d = swIn m c := by unfold Dat.before; rw [if_pos (fetch0_2 t0_0)]; rfl

theorem sound_body : bodyPre m c ⊢ Ends c stages (fun _ => bodyPost m c) := by
  unfold bodyPre bodyPost Φ₀ start scratches ghost credits
  simp only [before_0, before_1, before_2, ← holds_owns]
  iintro ⟨⟨⟨⟨%K, #HR, Hpb, Htb, Htw, Hpw, ⟨Ht0, Ht1, Ht2, Ht3⟩, Hp0, Hp1, Hp2, Hp3⟩, ⟨Hcb, Hc1, Hc3⟩, #HL, Hw⟩, Hb0, Hb1, Hb2, Hb3, Hb4, Hb5⟩,
    Ho, ⟨%d0, Hx⟩, ⟨%d1, Hsx⟩, ⟨%d2, Hsw⟩, ⟨%d3, Hout⟩⟩
  unfold Dat.owesAt Pipeline.owesWithin
  icases Ho with ⟨%W, -, Ho⟩
  rw [show (dats m 0 c).owed t0_0.castSucc = owedAll c 0 from rfl, show (dats m 0 c).owed t0_0.succ = 0 from rfl]
  ihave Hop := (opening_intro (F := F) c) $$ [Htb Hb3 Hb5]
  · isplitl [Htb]; · iexact Htb
    isplitl [Hb3] <;> iassumption
  ihave Hcol := (col_intro m c) $$ [Hw Hb1 Htw Hpw]
  · isplitl [Hw]; · iexact Hw
    isplitl [Hb1]; · iexact Hb1
    isplitl [Htw] <;> iassumption
  ihave Hsend := (send_intro (F := F) c) $$ [Hb2 Hb4 Ht0 Ht1 Ht2 Ht3 Hp0 Hp2]
  · isplitl [Hb2]; · iexact Hb2
    isplitl [Hb4]; · iexact Hb4
    isplitl [Ht0 Ht2]
    · isplitl [Ht0] <;> iassumption
    isplitl [Ht1 Ht3]
    · isplitl [Ht1] <;> iassumption
    isplitl [Hp0] <;> iassumption
  ihave Hrecv := (recv_intro (F := F) c _) $$ [Hc1 Hc3 Hp1 Hp3 Hout]
  · isplitl [Hc1 Hc3]
    · isplitl [Hc1] <;> iassumption
    isplitl [Hp1 Hp3]
    · isplitl [Hp1] <;> iassumption
    iexact Hout
  icases Hrecv with ⟨Hrecv, Hown⟩
  iapply (stages_step m K c) $$ [Ho Hop Hcb Hpb Hsx Hsw Hx Hb0 Hcol Hsend Hrecv Hown]
  · isplitr
    · unfold World
      isplitr; · iexact HR
      iexact HL
    isplitl [Ho]
    · unfold Ow; iexists W; iexact Ho
    isplitl [Hop]; · iexact Hop
    isplitl [Hcb Hpb]
    · isplitl [Hcb] <;> iassumption
    isplitl [Hsx Hsw]
    · isplitl [Hsx] <;> iassumption
    isplitl [Hx]; · iexact Hx
    isplitl [Hb0]; · iexact Hb0
    isplitl [Hcol]; · iexact Hcol
    isplitl [Hsend]; · iexact Hsend
    isplitl [Hrecv] <;> iassumption
  unfold Ow Work1
  rw [owedSends_end]
  iintro ⟨⟨%W', Ho⟩, Hz, ⟨Hsx, Hsw⟩, Hx, Hb0, Hcol, Hsend, Hrecv, Hown⟩
  ihave Hcol := (col_elim m c) $$ Hcol
  icases Hcol with ⟨Hw, Hb1, Hzw⟩
  ihave Hsend := (send_elim (F := F) c) $$ Hsend
  icases Hsend with ⟨Hb2, Hb4, Hz0, Hz2⟩
  ihave Hrecv := (recv_elim m c) $$ [Hrecv Hown]
  · isplitl [Hrecv] <;> iassumption
  icases Hrecv with ⟨Hb3, Hb5, ⟨Hz1, Hz3⟩, Hout⟩
  unfold Φ₁ cellsZero scratches
  isplitl [Hz Hw Hzw Hz0 Hz1 Hz2 Hz3 Hb0 Hb1 Hb2 Hb3 Hb4 Hb5]
  · isplitl [Hz Hw]
    · isplitl [Hz] <;> iassumption
    isplitl [Hzw Hz0 Hz1 Hz2 Hz3]
    · isplitl [Hzw]; · iexact Hzw
      isplitl [Hz0]; · iexact Hz0
      isplitl [Hz1]; · iexact Hz1
      isplitl [Hz2] <;> iassumption
    isplitl [Hb0]; · iexists _; iexact Hb0
    isplitl [Hb1]; · iexact Hb1
    isplitl [Hb2]; · iexact Hb2
    isplitl [Hb3]; · iexact Hb3
    isplitl [Hb4] <;> iassumption
  isplitl [Ho]
  · iexists W'; isplitr; · ipureintro; exact fun _ _ => Or.inl trivial
    iexact Ho
  isplitl [Hx]; · iexact Hx
  isplitl [Hsx]; · iexact Hsx
  isplitl [Hsw] <;> iassumption

set_option maxRecDepth 4000 in
/-- The library's obligation on device `c`. -/
theorem body_obligation : BodyObligation (dats (F := F) m 0 c) (defs₀ (F := F)) 𝒱₀ () Set.univ := fun t => by
  rw [fin_N0 t]
  rw [bigSep_W0, bigSep_W0]
  show bodyPre m c ⊢ Ends c (bodyAt0 (F := F) t0_0) (fun _ => bodyPost m c)
  rw [body_eq]
  exact sound_body m c

end Cert.KernelIdeal.Exchange

end
-- ==== Proof.Launch.lean ====
/- The launch: every device's cells opened, the duties dealt to the devices that pay them, and the run of all devices. -/
module

public import proofs.«01_k».proof.Proof.Obligation
public import Idealize.ShloMosaic.Lib.Pipeline.ValueKit.Geometry
public import Idealize.ShloMosaic.Lib.Pipeline.CollectiveSegs

@[expose] public section

noncomputable section

namespace Cert.KernelIdeal.Exchange

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Piles over a device's cells -/

theorem pile_own (Φ : Own → sProp 𝕄) : bigSep Finset.univ Φ
    = iprop((bigSep Finset.univ fun t : Fin 8 => Φ (.inl t)) ∗ (bigSep Finset.univ fun st : Fin 7 => Φ (.inr (0, st))) ∗ (bigSep Finset.univ fun st : Fin 7 => Φ (.inr (1, st)))
      ∗ (bigSep Finset.univ fun st : Fin 7 => Φ (.inr (2, st))) ∗ (bigSep Finset.univ fun st : Fin 7 => Φ (.inr (3, st)))) := by
  refine (BI.bigSep_univ_sum Φ).trans ?_
  rw [bigSep_univ_prod]
  rw [show (bigSep Finset.univ fun a : Fin 4 => bigSep Finset.univ fun st : Fin 7 => Φ (.inr (a, st))) = _ from
    bigSep_univ_eq_bigSepL [0, 1, 2, 3] (by decide) (by decide) _]
  rfl

theorem pile_cells (Φ : Option Own → sProp 𝕄) : bigSep Finset.univ Φ = iprop(Φ none ∗ bigSep Finset.univ fun k : Own => Φ (some k)) := by
  rw [bigSep_univ_equiv (Equiv.optionEquivSumPUnit.{0} Own).symm Φ]
  refine (BI.bigSep_univ_sum _).trans (both ?_ ?_)
  · refine BIBase.Entails.trans (show _ ⊢ iprop((bigSep Finset.univ fun k : Own => Φ (some k)) ∗ bigSep Finset.univ fun _ : Unit => Φ none) from .rfl) ?_
    rw [show (Finset.univ : Finset Unit) = {()} from rfl, bigSep_singleton]
    iintro ⟨H, H0⟩
    isplitl [H0] <;> iassumption
  · refine BIBase.Entails.trans ?_ (show iprop((bigSep Finset.univ fun k : Own => Φ (some k)) ∗ bigSep Finset.univ fun _ : Unit => Φ none) ⊢ _ from .rfl)
    rw [show (Finset.univ : Finset Unit) = {()} from rfl, bigSep_singleton]
    iintro ⟨H0, H⟩
    isplitl [H] <;> iassumption

theorem pile_comm {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod fun p : I × J => Φ p.1 p.2, bigSep_univ_equiv (Equiv.prodComm J I), bigSep_univ_prod]
  rfl

/-- Stage by stage, a pile over the devices passed along the stage's links. -/
theorem pile_turn (e : Fin 7 → Dev nD ≃ Dev nD) (Φ : Dev nD → Fin 7 → sProp 𝕄) :
    (bigSep Finset.univ fun c => bigSep Finset.univ fun st => Φ c st) = bigSep Finset.univ fun c => bigSep Finset.univ fun st => Φ (e st c) st := by
  rw [pile_comm, bigSep_congr fun st _ => bigSep_univ_equiv (e st) fun c => Φ c st, pile_comm]

/-! ## The cells and the duties -/

theorem ownSemFacts : Pipeline.OwnSemFacts cfg0.spec osem := by decide +kernel

theorem share_eq (c : Dev nD) (w : Fin cfg0.W) : (dats m 0 c).share w = fullShare := by unfold Dat.share; split <;> rfl

theorem osem_kind : ∀ k : Own, kindOf (osem k) = (match k with | .inl t => .w t | .inr (a, st) => .x a st)
  | .inl t => kind_w t
  | .inr (a, st) => kind_x a st

theorem osem_injective : Function.Injective osem := fun k k' h => by
  have h := congrArg kindOf h
  rw [osem_kind, osem_kind] at h
  rcases k with t | ⟨a, st⟩ <;> rcases k' with t' | ⟨a', st'⟩ <;> cases h <;> rfl

theorem osem_ne (k : Own) : osem k ≠ .reg barS := fun h => by
  have h := congrArg kindOf h
  rw [osem_kind, kind_bar] at h
  rcases k with t | ⟨a, st⟩ <;> cases h

theorem csem_injective : Function.Injective csem
  | none, none, _ => rfl
  | none, some k, h => absurd h.symm (osem_ne k)
  | some k, none, h => absurd h (osem_ne k)
  | some k, some k', h => congrArg some (osem_injective h)

theorem kcell_injective : Function.Injective kcell := fun ⟨c, k⟩ ⟨c', k'⟩ h => by
  have h1 : c = c' := congrArg (fun g : GSem nD τ sig => g.1.1) h
  have h2 : k = k' := csem_injective (congrArg Prod.snd h)
  rw [h1, h2]

def cellSet : Finset (GSem nD τ sig) := Finset.univ.map ⟨kcell, kcell_injective⟩

/-- A duty: of the barrier, by its stage; of another cell, the one. -/
abbrev tokOf (cj : Dev nD × (Fin 7 ⊕ Own)) : GSem nD τ sig × ℕ × Fin 7 := match cj.2 with
  | .inl d => (barCell cj.1, 0, d) | .inr k => (((cj.1 : Thread nD τ), osem k), 0, 0)

theorem tokOf_injective : Function.Injective tokOf := fun ⟨c, j⟩ ⟨c', j'⟩ h => by
  have h1 : c = c' := by
    have := congrArg (fun x : GSem nD τ sig × ℕ × Fin 7 => x.1.1.1) h
    rcases j with d | k <;> rcases j' with d' | k' <;> exact this
  have h2 : j = j' := by
    rcases j with d | k <;> rcases j' with d' | k'
    · exact congrArg Sum.inl (congrArg (fun x : GSem nD τ sig × ℕ × Fin 7 => x.2.2) h)
    · exact absurd (congrArg (fun x : GSem nD τ sig × ℕ × Fin 7 => x.1.2) h).symm (osem_ne k')
    · exact absurd (congrArg (fun x : GSem nD τ sig × ℕ × Fin 7 => x.1.2) h) (osem_ne k)
    · exact congrArg Sum.inr (osem_injective (congrArg (fun x : GSem nD τ sig × ℕ × Fin 7 => x.1.2) h))
  rw [h1, h2]

def dutySet : Finset (GSem nD τ sig × ℕ × Fin 7) := Finset.univ.map ⟨tokOf, tokOf_injective⟩

def u₀ : UU := (initOf (Pipeline.cells cfgs cellOf_inj) (Pipeline.launchToks cfgs cellOf_inj), initOf cellSet dutySet)

/-- The duties of device `c`'s own cells, -/
def duties (c : Dev nD) : sProp 𝕄 :=
  iprop((bigSep Finset.univ fun d : Fin 7 => dutyTok ER (barCell c) 0 d) ∗ (bigSep Finset.univ fun t : Fin 8 => dutyTok ER (wCell c t) 0 0)
    ∗ (bigSep Finset.univ fun st : Fin 7 => dutyTok ER (xCell c 0 st) 0 0) ∗ (bigSep Finset.univ fun st : Fin 7 => dutyTok ER (xCell c 1 st) 0 0)
    ∗ (bigSep Finset.univ fun st : Fin 7 => dutyTok ER (xCell c 2 st) 0 0) ∗ (bigSep Finset.univ fun st : Fin 7 => dutyTok ER (xCell c 3 st) 0 0))
/-- and those it pays. -/
def pays (c : Dev nD) : sProp 𝕄 :=
  iprop((bigSep Finset.univ fun st : Fin 7 => dutyTok ER (barCell (src c st)) 0 st) ∗ (bigSep Finset.univ fun t : Fin 8 => dutyTok ER (wCell c t) 0 0)
    ∗ (bigSep Finset.univ fun st : Fin 7 => dutyTok ER (xCell c 0 st) 0 0) ∗ (bigSep Finset.univ fun st : Fin 7 => dutyTok ER (xCell (dst c st) 1 st) 0 0)
    ∗ (bigSep Finset.univ fun st : Fin 7 => dutyTok ER (xCell c 2 st) 0 0) ∗ (bigSep Finset.univ fun st : Fin 7 => dutyTok ER (xCell (dst c st) 3 st) 0 0))

theorem duties_eq (c : Dev nD) :
    (bigSep Finset.univ fun j : Fin 7 ⊕ Own => (dutyTok ER (tokOf (c, j)).1 (tokOf (c, j)).2.1 (tokOf (c, j)).2.2 : sProp 𝕄)) = duties c := by
  refine (BI.bigSep_univ_sum _).trans ?_
  rw [pile_own]
  rfl

theorem duties_dealt : (bigSep Finset.univ fun c : Dev nD => (duties c : sProp 𝕄)) ⊢ bigSep Finset.univ fun c : Dev nD => pays c := by
  unfold duties pays
  simp only [bigSep_sep']
  rw [pile_turn (fun st => (link st).symm) fun c st => (dutyTok ER (barCell c) 0 st : sProp 𝕄),
    pile_turn link fun c st => (dutyTok ER (xCell c 1 st) 0 0 : sProp 𝕄), pile_turn link fun c st => (dutyTok ER (xCell c 3 st) 0 0 : sProp 𝕄)]
  exact .rfl

/-- What device `c` is dealt at the launch, and what the opening of all cells makes of it. -/
def G (c : Dev nD) : sProp 𝕄 :=
  iprop((bigSep Finset.univ fun k : Option Own => roundState ER (Rd m) (kcell (c, k)) 0)
    ∗ (bigSep Finset.univ fun k : Option Own => iprop(atPos ER (kcell (c, k)) 0 ∅ 0 ∗ reached ER (kcell (c, k)) 0)) ∗ duties c)
def G' (c : Dev nD) : sProp 𝕄 := iprop(∃ K, ghost m K c)

theorem fund_cells : BI.own (ER (initOf cellSet dutySet)) ⊢ (|==> bigSep Finset.univ (G m) : sProp 𝕄) := by
  have hX (Φ : GSem nD τ sig → sProp 𝕄) : bigSep cellSet Φ = bigSep Finset.univ fun c : Dev nD => bigSep Finset.univ fun k : Option Own => Φ (kcell (c, k)) := by
    unfold cellSet; rw [bigSep_map, bigSep_univ_prod]; rfl
  have hT : bigSep dutySet (fun x => (dutyTok ER x.1 x.2.1 x.2.2 : sProp 𝕄)) = bigSep Finset.univ fun c : Dev nD => duties c := by
    unfold dutySet; rw [bigSep_map, bigSep_univ_prod]
    exact bigSep_congr fun c _ => duties_eq c
  iintro HX
  imod (Rounds.fund ER (Rd m) cellSet dutySet) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) :
    (Pipeline.ownSems0 (Ix := Unit) (Name := ℕ) (U := UU) (Lvl := ℕ) (Val := Elt F) (τ := τ) osem c : sProp 𝕄) = cellsZero c :=
  (show _ = bigSep Finset.univ fun k : Own => (semVal ((c : Thread nD τ), osem k) 0 : sProp 𝕄) from rfl).trans (pile_own _)

theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Own => semVal (kcell (c, k)) 0 : sProp 𝕄) := by
  rw [unscopedSems0_eq, pile_cells]
  iintro ⟨HO, HB⟩
  isplitl [HB]; · iexact HB
  iapply (show Pipeline.ownSems0 osem c ⊢ (bigSep Finset.univ fun k : Own => semVal (kcell (c, some k)) 0 : sProp 𝕄) from .rfl)
  iexact HO

/-- Every cell of device `c` opened. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ duties c) := by
  unfold G
  iintro ⟨Hos, Hus, Hst, Hat, Htok⟩
  ihave Hv := (sems0_eq (F := F) c) $$ [Hos Hus]
  · isplitl [Hos] <;> iassumption
  imod (show iprop((bigSep Finset.univ fun k : Option Own => semVal (kcell (c, k)) 0) ∗ bigSep Finset.univ fun k : Option Own => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Option Own → ℕ) (c : Dev nD) :
    iprop(records m K ∗ (bigSep Finset.univ fun k : Option Own => atPos ER (kcell (c, k)) 0 ∅ 0) ∗ pays c) ⊢ G' m c := by
  unfold G' ghost pays
  rw [pile_cells, pile_own]
  iintro ⟨HR, ⟨Hb, Hw, H0, H1, H2, H3⟩, Tb, Tw, T0, T1, T2, T3⟩
  iexists K
  isplitl [HR]; · iexact HR
  isplitl [Hb]; · iexact Hb
  isplitl [Tb]; · iexact Tb
  isplitl [Tw]; · iexact Tw
  isplitl [Hw]; · iexact Hw
  isplitl [T0 T1 T2 T3]
  · isplitl [T0]; · iexact T0
    isplitl [T1]; · iexact T1
    isplitl [T2]; · iexact T2
    iexact T3
  isplitl [H0]; · iexact H0
  isplitl [H1]; · iexact H1
  isplitl [H2]; · iexact H2
  iexact H3

theorem pile_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ duties c) : sProp 𝕄)
      ⊢ bigSep Finset.univ (G' m) := by
  rw [bigSep_sep', bigSep_sep', ← bigSep_univ_prod (fun ck : Dev nD × Option Own => iprop(∃ κ : ℕ, cellInv ER (Rd m) κ (kcell ck))),
    bigSep_congr (s := Finset.univ) (fun (c : Dev nD) _ => bigSep_sep' Finset.univ (fun k : Option Own => (atPos ER (kcell (c, k)) 0 ∅ 0 : sProp 𝕄)) (fun k => reached ER (kcell (c, k)) 0)),
    bigSep_sep', ← bigSep_univ_prod (fun ck : Dev nD × Option Own => (reached ER (kcell ck) 0 : sProp 𝕄))]
  iintro ⟨HI, ⟨Hat, #HR⟩, Htok⟩
  ihave HK := (BI.bigSep_exists_pi Finset.univ (fun (ck : Dev nD × Option Own) (κ : ℕ) => (cellInv ER (Rd m) κ (kcell ck) : sProp 𝕄))) $$ HI
  icases HK with ⟨%K, #HI⟩
  ihave Htk := (duties_dealt (F := F)) $$ Htok
  iapply (pile_knowing (R := records m K) fun c _ => ghost_intro m K c)
  isplitr
  · unfold records; isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The units each device is sent -/

abbrev O₀ (c : Dev nD) : CellTallies nD τ sig Unit := owedAll c 0

theorem sum_at {I : Type} (S : Finset I) (f : I → CellTallies nD τ sig Unit) (g : GSem nD τ sig) : (∑ i ∈ S, f i) g () = ∑ i ∈ S, f i g () := by
  rw [Finset.sum_apply, Finsupp.finset_sum_apply]

theorem x_eq {c c' : Dev nD} {a a' : Fin 4} {st st' : Fin 7} (h : xCell c a st = xCell c' a' st') : c = c' ∧ a = a' ∧ st = st' := by
  have h1 : c = c' := congrArg (fun g : GSem nD τ sig => g.1.1) h
  have h2 := congrArg (fun g : GSem nD τ sig => kindOf g.2) h
  simp only [kind_x] at h2
  cases h2
  exact ⟨h1, rfl, rfl⟩

theorem owedX_at (d : Dev nD) (a' : Fin 4) (st' : Fin 7) (c : Dev nD) (a : Fin 4) (st : Fin 7) :
    owedX d a' st' (xCell c a st) () = if (d = src c st ∧ st' = st) ∧ a = a' then NX a else 0 := by
  unfold owedX
  rw [tallyAt_apply]
  by_cases h : (d = src c st ∧ st' = st) ∧ a = a'
  · obtain ⟨⟨rfl, rfl⟩, rfl⟩ := h
    rw [dst_src, if_pos ⟨rfl, rfl⟩, if_pos ⟨⟨rfl, rfl⟩, rfl⟩]
  · rw [if_neg h, if_neg]
    rintro ⟨h1, -⟩
    obtain ⟨rfl, rfl, rfl⟩ := x_eq h1
    exact h ⟨⟨(src_dst d st).symm, rfl⟩, rfl⟩

theorem bar_at_x (d c : Dev nD) (a : Fin 4) (st : Fin 7) : (tallyAt (barCell d) () 1 : CellTallies nD τ sig Unit) (xCell c a st) () = 0 := by
  rw [tallyAt_apply, if_neg]
  rintro ⟨h, -⟩
  have h := congrArg (fun g : GSem nD τ sig => kindOf g.2) h
  simp only [kind_x, kind_bar] at h
  cases h

theorem x_at_bar (d c : Dev nD) (a : Fin 4) (st : Fin 7) : owedX d a st (barCell c) () = 0 := by
  unfold owedX
  rw [tallyAt_apply, if_neg]
  rintro ⟨h, -⟩
  have h := congrArg (fun g : GSem nD τ sig => kindOf g.2) h
  simp only [kind_x, kind_bar] at h
  cases h

theorem owed_x (d c : Dev nD) (a : Fin 4) (ha : a = 1 ∨ a = 3) (st : Fin 7) : O₀ d (xCell c a st) () = if d = src c st then NX a else 0 := by
  unfold O₀ owedAll owedSends
  rw [Pi.add_apply, Finsupp.add_apply, sum_at, sum_at, Finset.sum_eq_zero (s := later d 0) fun i _ => bar_at_x _ _ _ _, Nat.add_zero]
  rw [Finset.sum_eq_single_of_mem st (Finset.mem_filter.mpr ⟨Finset.mem_univ _, Nat.zero_le _⟩) fun st' _ hne => by
    rw [Pi.add_apply, Finsupp.add_apply, owedX_at, owedX_at, if_neg fun h => hne h.1.2, if_neg fun h => hne h.1.2, Nat.add_zero]]
  rw [Pi.add_apply, Finsupp.add_apply, owedX_at, owedX_at]
  by_cases h : d = src c st
  · rcases ha with rfl | rfl
    · rw [if_neg fun h' => absurd h'.2 (by decide), if_pos ⟨⟨h, rfl⟩, rfl⟩, if_pos h, Nat.zero_add]
    · rw [if_pos ⟨⟨h, rfl⟩, rfl⟩, if_neg fun h' => absurd h'.2 (by decide), if_pos h, Nat.add_zero]
  · rw [if_neg fun h' => h h'.1.1, if_neg fun h' => h h'.1.1, if_neg h]

theorem owed_bar (d c : Dev nD) : O₀ d (barCell c) () = ∑ st : Fin 7, if c = src d st then 1 else 0 := by
  unfold O₀ owedAll owedSends
  rw [Pi.add_apply, Finsupp.add_apply, sum_at, sum_at, later_zero, Finset.sum_eq_zero (s := Finset.univ.filter _) fun i _ => by
    rw [Pi.add_apply, Finsupp.add_apply, x_at_bar, x_at_bar, Nat.add_zero], Nat.zero_add]
  refine Finset.sum_congr rfl fun st _ => ?_
  rw [tallyAt_apply]
  by_cases h : c = src d st
  · rw [if_pos h, if_pos ⟨by rw [h], rfl⟩]
  · rw [if_neg h, if_neg fun h' => h (congrArg (fun g : GSem nD τ sig => g.1.1) h'.1)]

theorem bar_total : ∀ c : Dev nD, (∑ d : Dev nD, ∑ st : Fin 7, if c = src d st then 1 else 0) = 7 := by decide +kernel

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, bar_total]

theorem launch_x (c : Dev nD) (a : Fin 4) (ha : a = 1 ∨ a = 3) (st : Fin 7) :
    tallyOn (xCell c a st) (launchCredit (Pipeline.owing O₀) 0 (xCell c a st)) = (tallyAt (xCell c a st) () (NX a) : CellTallies nD τ sig Unit) := by
  unfold tallyAt; refine congrArg _ (Finsupp.ext fun u => ?_); cases u
  rw [Pipeline.launchCredit_owing, Finsupp.single_eq_same, Finset.sum_congr rfl fun d _ => owed_x d c a ha st,
    Finset.sum_ite_eq' Finset.univ (src c st) fun _ => NX a, if_pos (Finset.mem_univ _)]

theorem creds (c : Dev nD) : (Pipeline.launchCred O₀ c : sProp 𝕄) ⊢ credits c := by
  unfold Pipeline.launchCred credits
  refine BIBase.Entails.trans (bigSep_subset (Finset.subset_univ (Finset.univ.map ⟨csem, csem_injective⟩))) ?_
  rw [bigSep_map, pile_cells, pile_own]
  iintro ⟨Hb, -, -, H1, -, H3⟩
  isplitl [Hb]
  · iapply (show cred (tallyOn (barCell c) (launchCredit (Pipeline.owing O₀) 0 (barCell c))) ⊢ (cred (tallyAt (barCell c) () 7) : sProp 𝕄) from
      BIBase.Entails.of_eq (by rw [launch_bar]))
    iexact Hb
  isplitl [H1]
  · iapply (pile_mono (F := F) (S := Finset.univ) fun (st : Fin 7) _ => show cred (tallyOn (xCell c 1 st) (launchCredit (Pipeline.owing O₀) 0 (xCell c 1 st)))
      ⊢ cred (tallyAt (xCell c 1 st) () (NX 1)) from BIBase.Entails.of_eq (by rw [launch_x c 1 (.inl rfl) st]))
    iexact H1
  · iapply (pile_mono (F := F) (S := Finset.univ) fun (st : Fin 7) _ => show cred (tallyOn (xCell c 3 st) (launchCredit (Pipeline.owing O₀) 0 (xCell c 3 st)))
      ⊢ cred (tallyAt (xCell c 3 st) () (NX 3)) from BIBase.Entails.of_eq (by rw [launch_x c 3 (.inr rfl) st]))
    iexact H3

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start G'
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs]; · iexact Hs
  iexact Hr

theorem phi1_exit (c : Dev nD) :
    (dats m 0 c).Φ (Fin.last cfg0.N) ⊢ iprop((unscopedSems0 c ∗ Holds c main_arg1 (wIn m c)) ∗ Pipeline.ownSems0 osem c ∗ Pipeline.scopedRest cfg0.spec c) := by
  rw [show (dats m 0 c).Φ (Fin.last cfg0.N) = Φ₁ m c from rfl, scopedRest0_eq, ownSems0_eq, unscopedSems0_eq]
  exact .rfl

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_all c _ 0 (by fin_cases w <;> fin_cases s <;> exact Nat.le_refl 0)
    · show _ ⊢ MayWait _ _ _ 0
      rw [MayWait_zero]; iintro -; iempintro

/-- What the run leaves: the result, and every argument as it was. -/
def Left (r : PUnit × MemSt nD τ sig (Elt F)) : Prop := ∀ c : Dev nD,
  r.2.mem ((c : Thread nD τ).loc main_v1) = outAt m c ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

theorem final_out (c : Dev nD) : (dats m 0 c).arrAt (3 : Fin 4) cfg0.N = outAt m c :=
  (dats m 0 c).arrAt_eq_of_after_last (3 : Fin 4) t0_0 (by decide +kernel) _ fun _ => rfl

set_option maxRecDepth 8000 in
/-- From any memory with zero counters, every fair execution of all devices ends, the results in place, the arguments
    as they were and every counter at zero. -/
theorem run_main : θ_run defs (onTc (τ := τ) (main (F := F))) (s₀ m ρ) (fun r => Left m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ Holds c main_arg1 (wIn m c))) (Z := fun _ => iprop(emp))
    (hX := start_intro m ρ) (hin := phi0_intro m) (hout := phi1_exit m)
    (QY := fun c s => s.mem ((c : Thread nD τ).loc main_arg1) = wIn m c ∧ ∀ sm : SemLoc sig, sm.isScoped .tc = false → s.sem ((c.tc : Thread nD τ), sm) = 0)
    (hY := fun c s' => by
      iintro ⟨⟨Hu, Hw⟩, -, HSI⟩
      icombine HSI Hw gives %h
      imod (Pipeline.unscopedSems0_read (X := unscopedSems0 c) (c := c) fupd_intro s') $$ [Hu HSI] with ⟨%hs, HSI⟩
      · isplitl [Hu] <;> iassumption
      imodintro
      isplitr
      · ipureintro; exact ⟨Buf.eq_of_forall_mem_univ h, hs⟩
      iexact HSI)
    (hQ := fun _ h hs => ⟨fun c => ⟨((h c).1 (3 : Fin 4)).trans (final_out m c), ((h c).1 (0 : Fin 4)).trans ((dats m 0 c).arrAt_in (0 : Fin 4) rfl _), (h c).2.2.1,
        ((h c).1 (1 : Fin 4)).trans ((dats m 0 c).arrAt_in (1 : Fin 4) rfl _), ((h c).1 (2 : Fin 4)).trans ((dats m 0 c).arrAt_in (2 : Fin 4) rfl _)⟩,
      sem_eq_zero hs fun c => (h c).2.2.2⟩)

end Cert.KernelIdeal.Exchange

end
-- ==== Proof.Same.lean ====
/- The two readings of the kernel are one text: its body and its table of labels at the bits are those printed
   for the extended reals, read at the bits. So the run proved over any floats is the kernel's own. -/
module

public import proofs.«01_k».proof.Defs
public import proofs.«01_k».proof.Proof.Launch

@[expose] public section

noncomputable section

namespace Cert.Proof

open Idealize.ShloMosaic Idealize.SL.Sem

variable [Cert.Kernel.Facts] [Cert.KernelIdeal.Facts]

/-- The region's body. -/
theorem body_same : Cert.Kernel.cc0_body (F := Bits) = Cert.KernelIdeal.cc0_body (F := Bits) := rfl

/-- The label it runs under. -/
theorem defs0_same : Cert.Kernel.defs₀ (F := Bits) = Cert.KernelIdeal.defs₀ (F := Bits) := by
  unfold Cert.Kernel.defs₀ Cert.KernelIdeal.defs₀
  refine congrArg Defs.onTc ?_
  funext b x
  match b, x with
  | ⟨0, _⟩, (t, s) => with_reducible dsimp only; rw [body_same]

/-- The whole table. -/
theorem defs_same : Cert.Kernel.defs (F := Bits) = Cert.KernelIdeal.defs (F := Bits) :=
  congrArg (fun D => Pipeline.defs Cert.KernelIdeal.pcfgs D) defs0_same

/-- The kernel runs at the bits, its arguments unchanged and every counter back at zero. -/
theorem frame_kernel : Cert.quiescent_Kernel := fun m ρ _ => by
  have h := (θ_run Cert.KernelIdeal.defs _ _).mono (fun r h => (⟨fun c => (h.1 c).2, h.2⟩ : _ ∧ _))
    (Cert.KernelIdeal.Exchange.run_main (F := Bits) m ρ)
  rw [← defs_same] at h
  exact h

end Cert.Proof

end
-- ==== Proof.Scalars.lean ====
/- The arithmetic of one element: the activation, written with a hyperbolic tangent in the kernel and with an
   exponential in the reference, and the code of an element, a saturating cast in the kernel and a clip in the
   reference. Extended reals throughout, the infinities included. -/
module

public import Idealize.ShloMosaic.PureOps.Ideal
public import Idealize.ShloMosaic.PureOps.Ideal.Laws
public import Idealize.ShloMosaic.Lib.IdealHost
public import Idealize.ShloMosaic.Lib.Pointwise.Index

@[expose] public section

noncomputable section

namespace Cert.Scalars

open Idealize.ShloMosaic

/-- `y / (1 + exp (-y))`. -/
def silu (y : EReal) : EReal := Ideal.div y (1 + Ideal.exp (-y))

/-- The word for a half. -/
theorem half_word : Ideal.ofBits .f32 0x3F000000#32 = ((1 / 2 : ℝ) : EReal) := by
  simp [Ideal.ofBits, Ideal.ieee, ← EReal.coe_mul]; norm_num

/-- The word for 127. -/
theorem top_word : Ideal.ofBits .f32 0x42FE0000#32 = ((127 : ℝ) : EReal) := by
  simp [Ideal.ofBits, Ideal.ieee, ← EReal.coe_mul]; norm_num

/-- The word for −128. -/
theorem bottom_word : Ideal.ofBits .f32 0xC3000000#32 = ((-128 : ℝ) : EReal) := by
  simp [Ideal.ofBits, Ideal.ieee, ← EReal.coe_mul]; norm_num

/-- The word a maximum starts from. -/
theorem neg_inf_word : Ideal.ofBits .f32 0xFF800000#32 = ⊥ := by
  simp [Ideal.ofBits, Ideal.ieee]

/-- A half of one plus the hyperbolic tangent of a half is the logistic function. -/
theorem half_tanh (r : ℝ) : 1 / 2 * Real.tanh (1 / 2 * r) + 1 / 2 = 1 / (1 + Real.exp (-r)) := by
  have h1 : Real.exp (-r) = Real.exp (-(1 / 2 * r)) * Real.exp (-(1 / 2 * r)) := by
    rw [← Real.exp_add]; congr 1; linarith
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = a at *
  generalize Real.exp (-(1 / 2 * r)) = b at *
  have : a = 1 / b := by rw [eq_div_iff p2.ne', h2]
  subst this
  field_simp
  norm_num

/-- The kernel's form of the activation is the reference's. -/
theorem silu_tanh (y : EReal) :
    y * (((1 / 2 : ℝ) : EReal) * Ideal.tanh (((1 / 2 : ℝ) : EReal) * y) + ((1 / 2 : ℝ) : EReal)) = silu y := by
  have hp : (0 : ℝ) < 1 / 2 := by norm_num
  induction y with
  | bot =>
    rw [EReal.coe_mul_bot_of_pos hp, Ideal.tanh_bot, silu, EReal.neg_bot, Ideal.exp_top]
    have : ((1 / 2 : ℝ) : EReal) * -1 + ((1 / 2 : ℝ) : EReal) = 0 := by
      rw [← EReal.coe_one, ← EReal.coe_neg, ← EReal.coe_mul, ← EReal.coe_add]; norm_num
    rw [this, mul_zero, EReal.add_top_of_ne_bot (by decide), Ideal.div]
    simp
  | top =>
    rw [EReal.coe_mul_top_of_pos hp, Ideal.tanh_top, silu, EReal.neg_top, Ideal.exp_bot]
    have : ((1 / 2 : ℝ) : EReal) * 1 + ((1 / 2 : ℝ) : EReal) = 1 := by
      rw [← EReal.coe_one, ← EReal.coe_mul, ← EReal.coe_add]; norm_num
    rw [this, mul_one, add_zero, Ideal.div]
    simp
  | coe r =>
    rw [← EReal.coe_mul, Ideal.tanh_coe, silu, ← EReal.coe_neg, Ideal.exp_coe, ← EReal.coe_mul, ← EReal.coe_add,
      ← EReal.coe_mul, ← EReal.coe_one, ← EReal.coe_add, Ideal.div_coe (by positivity), ← EReal.coe_mul, half_tanh]

/-- The code of `z` as a number: rounded to the nearest integer, clipped to a signed byte. -/
def code (z : EReal) : EReal := min ((127 : ℝ) : EReal) (max ((-128 : ℝ) : EReal) (Ideal.liftRound Ideal.roundHalfEven z))

/-- An integer of a signed byte's range, written as a byte and read back, is itself. -/
theorem byte_back (n : ℤ) (hlo : -128 ≤ n) (hhi : n ≤ 127) : (BitVec.ofInt 8 n).toInt = n := by
  rw [BitVec.toInt_ofInt]
  exact Int.bmod_eq_of_le (by omega) (by omega)

/-- The kernel's saturating cast to a byte, read back, is the clipped code. -/
theorem cast_code (z : EReal) :
    (((Ideal.fptosi 8 (Ideal.liftRound Ideal.roundHalfEven z)).toInt : ℝ) : EReal) = code z := by
  unfold Ideal.fptosi code
  induction z with
  | bot =>
    rw [Ideal.liftRound_bot, Ideal.toIntClamped_bot, byte_back _ (by norm_num) (by norm_num), max_eq_left bot_le,
      min_eq_right (by exact_mod_cast (by norm_num : (-128 : ℝ) ≤ 127))]
    norm_num
  | top =>
    rw [Ideal.liftRound_top, Ideal.toIntClamped_top, byte_back _ (by norm_num) (by norm_num), max_eq_right le_top,
      min_eq_left le_top]
    norm_num
  | coe r =>
    rw [Ideal.liftRound_coe, Ideal.toIntClamped_coe]
    generalize Ideal.roundHalfEven r = n
    rw [Int.floor_intCast, Int.ceil_intCast, ite_self, byte_back _ (by omega) (by omega)]
    rw [← EReal.coe_strictMono.monotone.map_max, ← EReal.coe_strictMono.monotone.map_min]
    congr 1
    push_cast
    norm_num
    rw [max_min_distrib_left, max_eq_right (by norm_num : (-128 : ℝ) ≤ 127)]

/-- The magnitude. -/
def mag (y : EReal) : EReal := max y (-y)

/-- The largest magnitude of a column of 512, and no less than the word for 1e-30. -/
def amax (f : Fin 512 → EReal) : EReal :=
  max ((Finset.univ : Finset (Fin 512)).fold max ⊥ fun p => mag (f p)) (Ideal.ofBits .f32 0x0DA24260#32)

/-- A column's element as it arrives: its code, times the column's scale. -/
def sent (f : Fin 512 → EReal) (p : Fin 512) : EReal :=
  code (f p * Ideal.div ((127 : ℝ) : EReal) (amax f)) * (amax f * Ideal.ofBits .f32 0x3C010204#32)

/-- Row `p` of row block `b`, of the whole 4096. -/
def row (b : Fin 8) (p : Fin 512) : Fin 4096 := ⟨512 * b.val + p.val, by omega⟩

/-- Column `j` of column block `c`, of the whole 2048. -/
def col (c : Fin 8) (j : Fin 256) : Fin 2048 := ⟨256 * c.val + j.val, by omega⟩

/-- The activation at row `r` and column `d` of the whole arrays. -/
def wholeAct (X : (⟨2, ![4096, 4096]⟩ : Shape).Idx → EReal) (W : (⟨2, ![4096, 2048]⟩ : Shape).Idx → EReal)
    (sx sw : (⟨1, ![1]⟩ : Shape).Idx → EReal) (r : Fin 4096) (d : Fin 2048) : EReal :=
  silu ((∑ k : Fin 4096, X (ix2 r k) * W (ix2 k d)) * (sx (ix1 0) * sw (ix1 0)))

end Cert.Scalars

end
-- ==== Proof.Payloads.lean ====
/- What the kernel computes on one block of columns, element by element over the extended reals: the
   activations, their largest magnitude per column, the codes and the scales, and a block restored from them. -/
module

public import proofs.«01_k».proof.Proof.Gen.KernelIdeal.Skeleton
public import proofs.«01_k».proof.Proof.Scalars
public import Idealize.ShloMosaic.Lib.Pointwise

@[expose] public section

noncomputable section

namespace Cert.Payloads

open Idealize.ShloMosaic Cert.KernelIdeal Cert.KernelIdeal.Gen Cert.Scalars

variable (s : EReal) (a : Vec Ideal S1x4096x256 .f32) (b : Vec Ideal S512x4096 .fp8e4m3)

/-- The activation at row `p`, column `d` of the block. -/
def act (p : Fin 512) (d : Fin 256) : EReal := silu ((∑ k : Fin 4096, b (ix2 p k) * a (ix3 0 k d)) * s)

theorem pay3_apply (p : Fin 512) (d : Fin 256) : k0_pay3 (F := Ideal) s a b (ix2 p d) = act s a b p d := by
  pointwise [k0_pay3, dot_S512x4096_S4096x256_S512x256_1_0_0_1_n_n]
  rw [half_word, silu_tanh, act]

theorem pay4_apply (d : Fin 256) : k0_pay4 (F := Ideal) s a b (ix2 0 d) = amax fun p => act s a b p d := by
  pointwise [k0_pay4, pay3_apply]
  rw [neg_inf_word]
  rfl

theorem pay5_apply (p : Fin 512) (d : Fin 256) :
    (((k0_pay5 (F := Ideal) s a b (ix3 0 p d)).toInt : ℝ) : EReal)
      = code (act s a b p d * Ideal.div ((127 : ℝ) : EReal) (amax fun p => act s a b p d)) := by
  pointwise [k0_pay5, pay3_apply, pay4_apply]
  rw [top_word]
  exact cast_code _

theorem pay6_apply (d : Fin 256) :
    k0_pay6 (F := Ideal) s a b (ix3 0 0 d) = (amax fun p => act s a b p d) * Ideal.ofBits .f32 0x3C010204#32 := by
  pointwise [k0_pay6, pay4_apply]

theorem pay18_apply (C : Vec Ideal S1x512x256 .i8) (S : Vec Ideal S1x1x256 .f32) (p : Fin 512) (d : Fin 256) :
    k0_pay18 (F := Ideal) C S (ix2 p d) = (((C (ix3 0 p d)).toInt : ℝ) : EReal) * S (ix3 0 0 d) := by
  pointwise [k0_pay18]
  rfl

/-- A block sent and restored, at row `p`, column `d`. -/
theorem restored_apply (p : Fin 512) (d : Fin 256) :
    k0_pay18 (F := Ideal) (k0_pay5 s a b) (k0_pay6 s a b) (ix2 p d) = sent (fun p => act s a b p d) p := by
  rw [pay18_apply, pay5_apply, pay6_apply, sent]

end Cert.Payloads

end
-- ==== Proof.KernelValue.lean ====
/- The result each device ends with, element by element over the extended reals, from the whole arrays
   its arguments are parts of. -/
module

public import proofs.«01_k».proof.Proof.Buffers
public import proofs.«01_k».proof.Proof.Payloads
public import Idealize.ShloMosaic.Lib.Pointwise

@[expose] public section

noncomputable section

namespace Cert.KernelValue

open Cert.KernelIdeal Cert.KernelIdeal.Gen Cert.KernelIdeal.Exchange Cert.Scalars Cert.Payloads
open Idealize.ShloMosaic Idealize.ShloMosaic.TcCoe Idealize.SL.Sem

variable (m : (ℓ : Loc nD τ sig) → Buf (Elt Ideal) ℓ) (c : Dev nD)

/-- The device's arguments. -/
abbrev argX : FVec Ideal S512x4096 .f32 := m ((c : Thread nD τ).loc main_arg0)
abbrev argW : FVec Ideal S4096x2048 .f32 := m ((c : Thread nD τ).loc main_arg1)
abbrev argSx : FVec Ideal S1 .f32 := m ((c : Thread nD τ).loc main_arg2)
abbrev argSw : FVec Ideal S1 .f32 := m ((c : Thread nD τ).loc main_arg3)

theorem xIn_eq (p : Fin 512) (k : Fin 4096) : (xIn m c (ix2 p k) : EReal) = argX m c (ix2 p k) := by
  show (m ((c : Thread nD τ).loc main_arg0)) _ = (m ((c : Thread nD τ).loc main_arg0)) _
  refine congrArg (m ((c : Thread nD τ).loc main_arg0)) (funext fun a => Fin.ext ?_)
  fin_cases a
  · show 0 * 512 + 1 * p.val = p.val
    omega
  · show 0 * 4096 + 1 * k.val = k.val
    omega

theorem xbV_apply (p : Fin 512) (k : Fin 4096) : (xbV m c (ix2 p k) : EReal) = argX m c (ix2 p k) := by
  refine Eq.trans ?_ (xIn_eq m c p k)
  unfold xbV
  pointwise [k0_pay2]

/-- An array of one element has one index. -/
theorem one_idx (i j : S1.Idx) : i = j := funext fun a => Fin.ext (by
  fin_cases a
  have hi : (i (0 : Fin 1)).val < 1 := (i (0 : Fin 1)).isLt
  have hj : (j (0 : Fin 1)).val < 1 := (j (0 : Fin 1)).isLt
  show (i (0 : Fin 1)).val = (j (0 : Fin 1)).val
  omega)

theorem sxIn_eq (i : S1.Idx) : (sxIn m c i : EReal) = argSx m c (ix1 0) := by
  show (m ((c : Thread nD τ).loc main_arg2)) _ = (m ((c : Thread nD τ).loc main_arg2)) _
  exact congrArg (m ((c : Thread nD τ).loc main_arg2)) (one_idx _ _)

theorem swIn_eq (i : S1.Idx) : (swIn m c i : EReal) = argSw m c (ix1 0) := by
  show (m ((c : Thread nD τ).loc main_arg3)) _ = (m ((c : Thread nD τ).loc main_arg3)) _
  exact congrArg (m ((c : Thread nD τ).loc main_arg3)) (one_idx _ _)

theorem scl_eq : (scl m c : EReal) = argSx m c (ix1 0) * argSw m c (ix1 0) := by
  have hx : ((sxM.access r1).read (Elt Ideal) (sxIn m c) first1 : EReal) = argSx m c (ix1 0) := sxIn_eq m c _
  have hw : ((swM.access r1).read (Elt Ideal) (swIn m c) first1 : EReal) = argSw m c (ix1 0) := swIn_eq m c _
  unfold scl k0_pay1
  rw [← hx, ← hw]
  rfl

/-- The column block stage `st` multiplies by. -/
def stBlk (c : Dev nD) (st : Fin 8) : Fin 8 := ⟨(c.val + st.val + 1) % 8, Nat.mod_lt _ (by decide)⟩

theorem wBlk_apply (st : Fin 8) (k : Fin 4096) (d : Fin 256) :
    (wBlk m c st (ix3 0 k d) : EReal) = argW m c (ix2 k (col (stBlk c st) d)) := by
  have hr : ((wSrc c st).view.read (Elt Ideal) (wIn m c) (ix2 k d) : EReal) = argW m c (ix2 k (col (stBlk c st) d)) := by
    show (m ((c : Thread nD τ).loc main_arg1)) _ = (m ((c : Thread nD τ).loc main_arg1)) _
    refine congrArg (m ((c : Thread nD τ).loc main_arg1)) (funext fun a => Fin.ext ?_)
    fin_cases a
    · show k0_off1 c (BitVec.ofNat 32 st.val) (0 : Fin 2) + 1 * k.val = k.val
      rw [k0_off1_eq, Nat.one_mul]; exact Nat.zero_add _
    · show k0_off1 c (BitVec.ofNat 32 st.val) (1 : Fin 2) + 1 * d.val = (col (stBlk c st) d).val
      rw [wOff_at, Nat.one_mul]; rfl
  unfold wBlk
  pointwise
  exact hr

/-! ## From the whole arrays -/

/-- Every device's arguments are its rows of `X` and the whole of `W` and the two scales. -/
def Cut (X : FVec Ideal ⟨2, ![4096, 4096]⟩ .f32) (W : FVec Ideal S4096x2048 .f32) (sx sw : FVec Ideal S1 .f32) : Prop :=
  ∀ c : Dev nD, argX m c = Layout.block ⟨2, ![512, 4096]⟩ ⟨2, ![4096, 4096]⟩ 0 8 c X ∧ argW m c = W ∧ argSx m c = sx ∧ argSw m c = sw

variable {m} {X : FVec Ideal ⟨2, ![4096, 4096]⟩ .f32} {W : FVec Ideal S4096x2048 .f32} {sx sw : FVec Ideal S1 .f32}

theorem Cut.row_of (h : Cut m X W sx sw) (p : Fin 512) (k : Fin 4096) : argX m c (ix2 p k) = X (ix2 (row c p) k) := by
  rw [(h c).1, Layout.block_apply]
  refine congrArg X (funext fun a => Fin.ext ?_)
  fin_cases a
  · show c.val * 512 + p.val = (row c p).val
    simp only [row]; omega
  · rfl

/-- A stage's activations are those of the device's rows and the stage's columns. -/
theorem act_eq (h : Cut m X W sx sw) (st : Fin 8) (p : Fin 512) (d : Fin 256) :
    act (scl m c) (wBlk m c st) (xbV m c) p d = wholeAct X W sx sw (row c p) (col (stBlk c st) d) := by
  unfold act wholeAct
  rw [scl_eq, (h c).2.2.1, (h c).2.2.2]
  congr 2
  refine Finset.sum_congr rfl fun k _ => ?_
  rw [xbV_apply, wBlk_apply, h.row_of, (h c).2.1]

theorem ownV_apply (h : Cut m X W sx sw) (p : Fin 512) (d : Fin 256) :
    (ownV m c (ix2 p d) : EReal) = wholeAct X W sx sw (row c p) (col c d) := by
  have hb : stBlk c 7 = c := Fin.ext (by
    have : c.val < 8 := c.isLt
    show (c.val + 7 + 1) % 8 = c.val
    omega)
  unfold ownV
  rw [pay3_apply, act_eq c h, hb]

theorem gotV_apply (h : Cut m X W sx sw) (st : Fin 7) (p : Fin 512) (d : Fin 256) :
    (gotV m c st (ix2 p d) : EReal) = sent (fun q => wholeAct X W sx sw (row (src c st) q) (col c d)) p := by
  have hb : stBlk (src c st) st.castSucc = c := dst_src c st
  unfold gotV codeV sclV
  rw [restored_apply]
  simp only [act_eq _ h, hb]

/-- The device's columns of the result, at an index. -/
theorem outAt_apply (h : Cut m X W sx sw) (b : Fin 8) (p : Fin 512) (d : Fin 256) :
    (outAt m c (ix2 (row b p) d) : EReal)
      = if b = c then wholeAct X W sx sw (row b p) (col c d) else sent (fun q => wholeAct X W sx sw (row b q) (col c d)) p := by
  have hb := b.isLt
  have hc : c.val < 8 := c.isLt
  have hq : (row b p).val / 512 = b.val := by simp only [row]; omega
  have hi : inBlk (ix2 (row b p) d) = ix2 p d := by
    funext a
    refine Fin.ext ?_
    fin_cases a
    · show (row b p).val % 512 = p.val
      simp only [row]; omega
    · rfl
  show (outPart m c (stageOf c ((row b p).val / 512)) (inBlk (ix2 (row b p) d)) : EReal) = _
  rw [hq, hi]
  unfold outPart
  by_cases e : b = c
  · subst e
    have h7 : ¬ (stageOf b b.val).val < 7 := by
      show ¬ (b.val + 15 - b.val) % 8 < 7
      omega
    rw [dif_neg h7, if_pos rfl]
    exact ownV_apply b h p d
  · have hne : b.val ≠ c.val := fun e' => e (Fin.ext e')
    have h7 : (stageOf c b.val).val < 7 := by
      show (c.val + 15 - b.val) % 8 < 7
      omega
    have hs : src c ⟨(stageOf c b.val).val, h7⟩ = b := Fin.ext (by
      show (c.val + 7 - (c.val + 15 - b.val) % 8) % 8 = b.val
      omega)
    rw [dif_pos h7, if_neg e, gotV_apply c h, hs]

end Cert.KernelValue

end
-- ==== Proof.ReferenceValue.lean ====
/- The reference's result, element by element over the extended reals: its stages as functions of the array
   before, each read at an index, and their composition. -/
module

public import proofs.«01_k».proof.Proof.Gen.ReferenceIdeal.Run
public import proofs.«01_k».proof.Proof.Scalars
public import Idealize.ShloMosaic.Lib.Pointwise

@[expose] public section

noncomputable section

namespace Cert.ReferenceValue

open Idealize.ShloMosaic Idealize.ShloMosaic.TcCoe Cert.ReferenceIdeal Cert.ReferenceIdeal.Gen Cert.ReferenceIdeal.Value Cert.Scalars Idealize.SL.Sem

/-! ## The stages -/

/-- The scaled product. -/
def prodT (X : FVec Ideal S4096x4096 .f32) (W : FVec Ideal S4096x2048 .f32) (sx sw : FVec Ideal S1 .f32) : FVec Ideal S4096x2048 .f32 :=
  mulf (Host.dotGeneral dot_S4096x4096_S4096x2048_S4096x2048_1_0_0_1_n_n none X W)
    (broadcastInDim S4096x2048 ![0, 1] bcast_S1x1_S4096x2048_0_1 (broadcastInDim S1x1 ![1] bcast_S1_S1x1_1 (mulf sx sw)))

/-- The activation. -/
def actT (A : FVec Ideal S4096x2048 .f32) : FVec Ideal S4096x2048 .f32 :=
  Host.divf A (addf (broadcastInDim S4096x2048 ![] bcast_S_S4096x2048 (constant S_ .f32 0x3F800000#32)) (Host.exp (Host.negf A)))

/-- Its blocks. -/
def blocksT (Y : FVec Ideal S4096x2048 .f32) : FVec Ideal S8x512x8x256 .f32 := shapeCast _ Y shapeCasts_S4096x2048_S8x512x8x256

/-- The largest magnitude per block and column. -/
def amaxT (B : FVec Ideal S8x512x8x256 .f32) : FVec Ideal S8x1x8x256 .f32 :=
  maximumf (broadcastInDim S8x1x8x256 ![0, 2, 3] bcast_S8x8x256_S8x1x8x256_0_2_3
    (Host.reduce FloatOps.maximumf (Host.absf B) (constant S_ .f32 0xFF800000#32) reducesTo_S8x512x8x256_S8x8x256_d1 h_S_))
    (broadcastInDim S8x1x8x256 ![] bcast_S_S8x1x8x256 (constant S_ .f32 0x0DA24260#32))

/-- The blocks sent and restored. -/
def sentT (B : FVec Ideal S8x512x8x256 .f32) (M : FVec Ideal S8x1x8x256 .f32) : FVec Ideal S8x512x8x256 .f32 :=
  mulf (minimumf (broadcastInDim S8x512x8x256 ![] bcast_S_S8x512x8x256 (id (constant S_ .f32 0x42FE0000#32)))
    (maximumf (broadcastInDim S8x512x8x256 ![] bcast_S_S8x512x8x256 (id (constant S_ .f32 0xC3000000#32)))
      (Host.roundeven (mulf B (broadcastInDim S8x512x8x256 ![0, 1, 2, 3] bcast_S8x1x8x256_S8x512x8x256_0_1_2_3
        (Host.divf (broadcastInDim S8x1x8x256 ![] bcast_S_S8x1x8x256 (constant S_ .f32 0x42FE0000#32)) M))))))
    (broadcastInDim S8x512x8x256 ![0, 1, 2, 3] bcast_S8x1x8x256_S8x512x8x256_0_1_2_3
      (mulf M (broadcastInDim S8x1x8x256 ![] bcast_S_S8x1x8x256 (constant S_ .f32 0x3C010204#32))))

/-- The diagonal blocks themselves, the others sent, in place. -/
def pickT (B D : FVec Ideal S8x512x8x256 .f32) : FVec Ideal S4096x2048 .f32 :=
  shapeCast _ (select (cmpi .eq (iotaInDim S8x512x8x256 32 0) (iotaInDim S8x512x8x256 32 2)) B D) shapeCasts_S8x512x8x256_S4096x2048

/-! ## Each at an index -/

theorem actT_prodT_apply (X : FVec Ideal S4096x4096 .f32) (W : FVec Ideal S4096x2048 .f32) (sx sw : FVec Ideal S1 .f32)
    (r : Fin 4096) (d : Fin 2048) : actT (prodT X W sx sw) (ix2 r d) = wholeAct X W sx sw r d := by
  have hp : prodT X W sx sw (ix2 r d) = (∑ k : Fin 4096, X (ix2 r k) * W (ix2 k d)) * (sx (ix1 0) * sw (ix1 0)) := by
    pointwise [prodT, dot_S4096x4096_S4096x2048_S4096x2048_1_0_0_1_n_n]
  pointwise [actT]
  rw [hp, wholeAct, silu]

theorem blocksT_apply (Y : FVec Ideal S4096x2048 .f32) (b c : Fin 8) (p : Fin 512) (j : Fin 256) :
    blocksT Y (ix4 b p c j) = Y (ix2 (row b p) (col c j)) := by
  pointwise [blocksT]
  congr 2
  · exact Fin.ext (by simp only [row]; omega)
  · exact Fin.ext (by simp only [col]; omega)

/-- A maximum over the second of four axes: the fold of `max` along it. -/
theorem reduce_max_apply {n0 n1 n2 n3 : Nat} {u : Shape} (B : (⟨4, ![n0, n1, n2, n3]⟩ : Shape).Idx → EReal) (init : u.Idx → EReal)
    (h : (⟨4, ![n0, n1, n2, n3]⟩ : Shape).ReducesTo [1] ⟨3, ![n0, n2, n3]⟩) (hu : 0 < u.numel) (b : Fin n0) (c : Fin n2) (j : Fin n3) :
    Host.reduce (FloatOps.maximumf (F := Ideal) (φ := .f32)) B init h hu (ix3 b c j)
      = (Finset.univ : Finset (Fin n1)).fold max (init (Shape.Idx.first hu)) fun p => B (ix4 b p c j) := by
  rw [Host.reduce_eq_fold]
  exact h.fold_fiber_r4_a1 (ix3 b c j) max _ B

theorem reduce_mag_apply {n0 n1 n2 n3 : Nat} {u : Shape} (B : FVec Ideal ⟨4, ![n0, n1, n2, n3]⟩ .f32)
    (h : (⟨4, ![n0, n1, n2, n3]⟩ : Shape).ReducesTo [1] ⟨3, ![n0, n2, n3]⟩) (hu : 0 < u.numel) (b : Fin n0) (c : Fin n2) (j : Fin n3) :
    Host.reduce FloatOps.maximumf (Host.absf B) (constant u .f32 0xFF800000#32) h hu (ix3 b c j)
      = (Finset.univ : Finset (Fin n1)).fold max ⊥ fun p => mag (B (ix4 b p c j)) := by
  have h0 : (constant (F := Ideal) u .f32 0xFF800000#32 (Shape.Idx.first hu) : EReal) = ⊥ := neg_inf_word
  rw [← h0]
  exact reduce_max_apply (Host.absf (F := Ideal) B) (constant (F := Ideal) u .f32 0xFF800000#32) h hu b c j

theorem floored_apply (R : FVec Ideal S8x8x256 .f32) (b c : Fin 8) (j : Fin 256) :
    maximumf (broadcastInDim S8x1x8x256 ![0, 2, 3] bcast_S8x8x256_S8x1x8x256_0_2_3 R)
      (broadcastInDim S8x1x8x256 ![] bcast_S_S8x1x8x256 (constant S_ .f32 0x0DA24260#32)) (ix4 b 0 c j)
      = (max (R (ix3 b c j)) (Ideal.ofBits .f32 0x0DA24260#32) : EReal) := by
  pointwise

theorem amaxT_apply (B : FVec Ideal S8x512x8x256 .f32) (b c : Fin 8) (j : Fin 256) :
    amaxT B (ix4 b 0 c j) = amax fun p => B (ix4 b p c j) :=
  (floored_apply _ b c j).trans (congrArg (fun z : EReal => max z (Ideal.ofBits .f32 0x0DA24260#32)) (reduce_mag_apply B _ _ b c j))

theorem sentT_apply (B : FVec Ideal S8x512x8x256 .f32) (M : FVec Ideal S8x1x8x256 .f32) (b c : Fin 8) (p : Fin 512) (j : Fin 256) :
    sentT B M (ix4 b p c j)
      = code (B (ix4 b p c j) * Ideal.div ((127 : ℝ) : EReal) (M (ix4 b 0 c j))) * (M (ix4 b 0 c j) * Ideal.ofBits .f32 0x3C010204#32) := by
  have hi : ∀ w : BitVec 32, (id (constant (F := Ideal) S_ .f32 w) ix0 : EReal) = Ideal.ofBits .f32 w := fun _ => rfl
  pointwise [sentT]
  simp only [hi, top_word, bottom_word, code]

/-- A choice by equality of two block numbers. -/
theorem select_blocks (b c : Fin 8) (A B : EReal) :
    Scalar.select (IntOp.cmpi CmpIPredicate.eq (BitVec.ofNat 32 b.val) (BitVec.ofNat 32 c.val)) A B = if b = c then A else B := by
  by_cases h : b = c
  · subst h; simp [Scalar.select, IntOp.cmpi]
  · have hb := b.isLt
    have hc := c.isLt
    have hne : BitVec.ofNat 32 b.val ≠ BitVec.ofNat 32 c.val := fun e => h (Fin.ext (by
      have e := congrArg BitVec.toNat e
      simp only [BitVec.toNat_ofNat] at e
      omega))
    rw [if_neg h]
    simp [Scalar.select, IntOp.cmpi, beq_eq_false_iff_ne.mpr hne]

theorem pickT_apply (B D : FVec Ideal S8x512x8x256 .f32) (b c : Fin 8) (p : Fin 512) (j : Fin 256) :
    pickT B D (ix2 (row b p) (col c j)) = if b = c then B (ix4 b p c j) else D (ix4 b p c j) := by
  have hb : (row b p).val / 512 = b.val := by simp only [row]; omega
  have hp : (row b p).val % 512 = p.val := by simp only [row]; omega
  have hc : (col c j).val / 256 = c.val := by simp only [col]; omega
  have hj : (col c j).val % 256 = j.val := by simp only [col]; omega
  pointwise [pickT]
  simp only [hb, hp, hc, hj, Fin.eta]
  exact select_blocks b c _ _

/-! ## The result -/

/-- The reference's result from its arguments. -/
def resultT (X : FVec Ideal S4096x4096 .f32) (W : FVec Ideal S4096x2048 .f32) (sx sw : FVec Ideal S1 .f32) : FVec Ideal S4096x2048 .f32 :=
  pickT (blocksT (actT (prodT X W sx sw))) (sentT (blocksT (actT (prodT X W sx sw))) (amaxT (blocksT (actT (prodT X W sx sw)))))

theorem resultT_apply (X : FVec Ideal S4096x4096 .f32) (W : FVec Ideal S4096x2048 .f32) (sx sw : FVec Ideal S1 .f32)
    (b c : Fin 8) (p : Fin 512) (j : Fin 256) :
    resultT X W sx sw (ix2 (row b p) (col c j))
      = if b = c then wholeAct X W sx sw (row b p) (col c j)
        else sent (fun q => wholeAct X W sx sw (row b q) (col c j)) p := by
  unfold resultT
  rw [pickT_apply, sentT_apply, amaxT_apply]
  simp only [blocksT_apply, actT_prodT_apply, sent]

theorem result_eq (m : (ℓ : Loc nD τ sig) → Buf (Elt Ideal) ℓ) (c : Dev nD) :
    res_main_v30 m c = resultT (m ((c.tc : Thread nD τ).loc main_arg0)) (m ((c.tc : Thread nD τ).loc main_arg1))
      (m ((c.tc : Thread nD τ).loc main_arg2)) (m ((c.tc : Thread nD τ).loc main_arg3)) := by
  unfold res_main_v30
  rfl

end Cert.ReferenceValue

end
-- ==== Proof.lean ====
/- The five claims, proved: the run of all devices once for any floats (Proof/Launch), the reference's value
   and its equality with what the devices leave. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Launch
public import proofs.«01_k».proof.Proof.Same
public import proofs.«01_k».proof.Proof.KernelValue
public import proofs.«01_k».proof.Proof.ReferenceValue
public import Idealize.ShloMosaic.Lib.Quiescent

@[expose] public section

noncomputable section

namespace Cert.Proof

open Idealize.ShloMosaic Idealize.SL.Sem

/-- The reading over the extended reals runs, its arguments unchanged and every counter back at zero. -/
theorem frame_ideal : Cert.quiescent_KernelIdeal := fun m ρ _ =>
  (θ_run Cert.KernelIdeal.defs _ _).mono (fun _ h => ⟨fun c => (h.1 c).2, h.2⟩) (Cert.KernelIdeal.Exchange.run_main (F := Ideal) m ρ)

/-- So does the reference. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

section Agree

open Idealize.ShloMosaic.TcCoe Cert.KernelIdeal Cert.KernelIdeal.Exchange Cert.KernelValue Cert.ReferenceValue Cert.Scalars

/-- What a device ends with is its columns of the reference's result. -/
theorem out_eq_block {m : (ℓ : Loc nD τ sig) → Buf (Elt Ideal) ℓ} {X : FVec Ideal ⟨2, ![4096, 4096]⟩ .f32} {W : FVec Ideal S4096x2048 .f32}
    {sx sw : FVec Ideal S1 .f32} (h : Cut m X W sx sw) (c : Dev nD) :
    outAt m c = Layout.block ⟨2, ![4096, 256]⟩ ⟨2, ![4096, 2048]⟩ 1 8 c (resultT X W sx sw) := by
  funext i
  obtain ⟨r, d, rfl⟩ : ∃ (r : Fin 4096) (d : Fin 256), i = ix2 r d := ⟨i (0 : Fin 2), i (1 : Fin 2), eq_ix2 i⟩
  obtain ⟨b, p, rfl⟩ : ∃ (b : Fin 8) (p : Fin 512), r = row b p :=
    ⟨⟨r.val / 512, by have := r.isLt; omega⟩, ⟨r.val % 512, by omega⟩, Fin.ext (by simp only [row]; omega)⟩
  have hi : Layout.Tiles.idx (S := ⟨2, ![4096, 256]⟩) (T := ⟨2, ![4096, 2048]⟩) (a := 1) (k := 8) (by decide) c (ix2 (row b p) d) = ix2 (row b p) (col c d) := by
    refine funext fun a => Fin.ext ?_
    fin_cases a
    · rfl
    · show c.val * 256 + d.val = (col c d).val
      simp only [col]; omega
  rw [Layout.block_apply, hi]
  exact (outAt_apply c h b p d).trans (resultT_apply X W sx sw b c p d).symm

end Agree

/-- Each device ends with its columns of the reference's result. -/
theorem agree : Cert.algebraic_KernelIdeal_ReferenceIdeal := fun m g m' g' _ h =>
  ⟨Cert.ReferenceIdeal.Value.res_main_v30 m' 0,
    (θ_run Cert.KernelIdeal.defs _ _).mono (fun r hr c => by
      refine ⟨(hr.1 c).1.trans ?_, (hr.1 c).2⟩
      rw [Cert.ReferenceValue.result_eq]
      exact out_eq_block h c) (Cert.KernelIdeal.Exchange.run_main (F := Ideal) m g),
    (θ_run Cert.ReferenceIdeal.defs _ _).mono (fun r hr => hr 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, agree⟩

end Cert.Proof

end
